-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def preserves_Ffn_FfnIdeal : Prop :=
  IdealRules.named_const.Statement Cert.FfnIdeal.κ "inv_sqrt_2" .f32 0x3F3504F3#32 (((Real.sqrt 2)⁻¹ : ℝ) : EReal)
  ∧ IdealRules.named_const.Statement Cert.FfnIdeal.κ "alpha" .f32 0x3FD744FD#32 ((Real.sqrt (Real.sqrt 8) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v10) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  IdealRules.named_const.Statement Cert.OutIdeal.κ "alpha" .f32 0x3FD744FD#32 ((Real.sqrt (Real.sqrt 8) : ℝ) : EReal)

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
-- ==== Ffn.lean ====
abbrev S16384x1024 : Shape := ⟨2, ![16384, 1024]⟩
abbrev S1024x5632 : Shape := ⟨2, ![1024, 5632]⟩
abbrev S5632 : Shape := ⟨1, ![5632]⟩
abbrev S3x5632 : Shape := ⟨2, ![3, 5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S1024x1024 : Shape := ⟨2, ![1024, 1024]⟩
abbrev S16x1024 : Shape := ⟨2, ![16, 1024]⟩
abbrev S1024x256 : Shape := ⟨2, ![1024, 256]⟩
abbrev S1x256 : Shape := ⟨2, ![1, 256]⟩
abbrev S3x256 : Shape := ⟨2, ![3, 256]⟩
abbrev S256x1024 : Shape := ⟨2, ![256, 1024]⟩
abbrev S1056x1024 : Shape := ⟨2, ![1056, 1024]⟩
abbrev S1056x256 : Shape := ⟨2, ![1056, 256]⟩
abbrev S544x1024 : Shape := ⟨2, ![544, 1024]⟩
abbrev S544x256 : Shape := ⟨2, ![544, 256]⟩
abbrev S16x256 : Shape := ⟨2, ![16, 256]⟩
abbrev S528x256 : Shape := ⟨2, ![528, 256]⟩
abbrev S512x1024 : Shape := ⟨2, ![512, 1024]⟩
abbrev S512x256 : Shape := ⟨2, ![512, 256]⟩
abbrev S496x256 : Shape := ⟨2, ![496, 256]⟩
abbrev S1024x1 : Shape := ⟨2, ![1024, 1]⟩

abbrev nBuf : Space → Nat
  | .hbm => 17
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .bf16⟩
  | .hbm, ⟨10, _⟩ => ⟨S1x5632, .f32⟩
  | .hbm, ⟨11, _⟩ => ⟨S1x5632, .f32⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x1024, .bf16⟩
  | .local _ .vmem, ⟨23, _⟩ => ⟨S256x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | .local _ .vmem, ⟨29, _⟩ => ⟨S1056x1024, .bf16⟩
  | .local _ .vmem, ⟨30, _⟩ => ⟨S1056x256, .f32⟩
  | .local _ .vmem, ⟨31, _⟩ => ⟨S1056x256, .f32⟩
  | .local _ .vmem, ⟨32, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v213 : BitVec 1 := Scalar.cmpi .eq arg1 c10_i32
  let v214 : BitVec 32 := Scalar.extui v213
  let c0_i32_105 : BitVec 32 := 0#32
  let v215 : BitVec 1 := Scalar.cmpi .ne v214 c0_i32_105
  v215

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FfnIdeal.lean ====
variable {F : FTy → Type} [FloatOps F] [Named F]
def κ : String → Option EReal := fun
  | "alpha" => some ((Real.sqrt (Real.sqrt 8) : ℝ) : EReal)
  | "inv_sqrt_2" => some (((Real.sqrt 2)⁻¹ : ℝ) : EReal)
  | _ => none
-- ==== FfnRefIdeal.lean ====
abbrev S16384x1024 : Shape := ⟨2, ![16384, 1024]⟩
abbrev S1024x5632 : Shape := ⟨2, ![1024, 5632]⟩
abbrev S5632 : Shape := ⟨1, ![5632]⟩
abbrev S3x5632 : Shape := ⟨2, ![3, 5632]⟩
abbrev S2816x1024 : Shape := ⟨2, ![2816, 1024]⟩
abbrev S1024 : Shape := ⟨1, ![1024]⟩
abbrev S4x4096x1024 : Shape := ⟨3, ![4, 4096, 1024]⟩
abbrev S_ : Shape := ⟨0, ![]⟩
abbrev S4x4096x5632 : Shape := ⟨3, ![4, 4096, 5632]⟩
abbrev S1x1x5632 : Shape := ⟨3, ![1, 1, 5632]⟩
abbrev S4x4098x5632 : Shape := ⟨3, ![4, 4098, 5632]⟩
abbrev S1x5632 : Shape := ⟨2, ![1, 5632]⟩
abbrev S4x4096x2816 : Shape := ⟨3, ![4, 4096, 2816]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x5632, .f32⟩
  | .hbm, ⟨14, _⟩ => ⟨S1x1x5632, .f32⟩
  | .hbm, ⟨15, _⟩ => ⟨S4x4096x5632, .f32⟩
  | .hbm, ⟨16, _⟩ => ⟨S4x4096x5632, .f32⟩
  | .hbm, ⟨17, _⟩ => ⟨S_, .i32⟩
  | .hbm, ⟨18, _⟩ => ⟨S_, .f32⟩
  | .hbm, ⟨19, _⟩ => ⟨S4x4098x5632, .f32⟩
  | .hbm, ⟨20, _⟩ => ⟨S4x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x4096x5632, .f32⟩
  | .hbm, ⟨25, _⟩ => ⟨S4x4096x5632, .f32⟩
  | .hbm, ⟨26, _⟩ => ⟨S4x4096x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S4x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S1x1x5632, .f32⟩
  | .hbm, ⟨41, _⟩ => ⟨S4x4096x5632, .f32⟩
  | .hbm, ⟨42, _⟩ => ⟨S4x4096x5632, .f32⟩
  | .hbm, ⟨43, _⟩ => ⟨S4x4096x2816, .f32⟩
  | .hbm, ⟨44, _⟩ => ⟨S4x4096x2816, .f32⟩
  | .hbm, ⟨45, _⟩ => ⟨S_, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S_, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1024, .f32⟩
  | .hbm, ⟨81, _⟩ => ⟨S4x4096x1024, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S4x4096x1, .f32⟩
  | .hbm, ⟨86, _⟩ => ⟨S4x4096x1024, .f32⟩
  | .hbm, ⟨87, _⟩ => ⟨S4x4096x1024, .f32⟩
  | .hbm, ⟨88, _⟩ => ⟨S1x1x1024, .f32⟩
  | .hbm, ⟨89, _⟩ => ⟨S4x4096x1024, .f32⟩
  | .hbm, ⟨90, _⟩ => ⟨S4x4096x1024, .f32⟩
  | .hbm, ⟨91, _⟩ => ⟨S1x1x1024, .f32⟩
  | .hbm, ⟨92, _⟩ => ⟨S4x4096x1024, .f32⟩
  | .hbm, ⟨93, _⟩ => ⟨S4x4096x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Qkv.lean ====
abbrev S16384x1024 : Shape := ⟨2, ![16384, 1024]⟩
abbrev S1024x3072 : Shape := ⟨2, ![1024, 3072]⟩
abbrev S3072 : Shape := ⟨1, ![3072]⟩
abbrev S_ : Shape := ⟨0, ![]⟩
abbrev S1x3072 : Shape := ⟨2, ![1, 3072]⟩
abbrev S16384x3072 : Shape := ⟨2, ![16384, 3072]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S3072, .f32⟩
  | .hbm, ⟨3, _⟩ => ⟨S3072, .i32⟩
  | .hbm, ⟨4, _⟩ => ⟨S_, .i32⟩
  | .hbm, ⟨5, _⟩ => ⟨S3072, .i32⟩
  | .hbm, ⟨6, _⟩ => ⟨S3072, .i1⟩
  | .hbm, ⟨7, _⟩ => ⟨S_, .f32⟩
  | .hbm, ⟨8, _⟩ => ⟨S_, .f32⟩
  | .hbm, ⟨9, _⟩ => ⟨S3072, .f32⟩
  | .hbm, ⟨10, _⟩ => ⟨S3072, .f32⟩
  | .hbm, ⟨11, _⟩ => ⟨S3072, .f32⟩
  | .hbm, ⟨12, _⟩ => ⟨S3072, .f32⟩
  | .hbm, ⟨13, _⟩ => ⟨S1x3072, .f32⟩
  | .hbm, ⟨14, _⟩ => ⟨S1024x3072, .bf16⟩
  | .hbm, ⟨15, _⟩ => ⟨S1x3072, .f32⟩
  | .hbm, ⟨16, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1x3072, .f32⟩
  | .local _ .vmem, ⟨5, _⟩ => ⟨S1024x3072, .bf16⟩
  | .local _ .vmem, ⟨6, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S16384x1024 : Shape := ⟨2, ![16384, 1024]⟩
abbrev S1024x3072 : Shape := ⟨2, ![1024, 3072]⟩
abbrev S3072 : Shape := ⟨1, ![3072]⟩
abbrev S16384x3072 : Shape := ⟨2, ![16384, 3072]⟩
abbrev S1x3072 : Shape := ⟨2, ![1, 3072]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S3072, .f32⟩
  | .hbm, ⟨3, _⟩ => ⟨S16384x3072, .f32⟩
  | .hbm, ⟨4, _⟩ => ⟨S1x3072, .f32⟩
  | .hbm, ⟨5, _⟩ => ⟨S16384x3072, .f32⟩
  | .hbm, ⟨6, _⟩ => ⟨S16384x3072, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x3072, .f32⟩
  | .hbm, ⟨14, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutIdeal.lean ====
variable {F : FTy → Type} [FloatOps F] [Named F]
def κ : String → Option EReal := fun
  | "alpha" => some ((Real.sqrt (Real.sqrt 8) : ℝ) : EReal)
  | _ => none
-- ==== OutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Ffn.Payloads.lean ====
/- What the ConvFFN body's pure pieces hold, element by element, over the extended reals. -/
module

public import proofs.«01_k».proof.Proof.Gen.FfnIdeal.Skeleton
public import Idealize.ShloMosaic.Lib.Pointwise
public import Idealize.ShloMosaic.Lib.Pipeline.Value

@[expose] public section

set_option maxRecDepth 16384

noncomputable section

namespace Cert.FfnIdeal.Ffn

open Cert.FfnIdeal Cert.FfnIdeal.Gen Idealize.ShloMosaic Idealize.ShloMosaic.TcCoe

/-- The exact gelu as the kernel spells it: half of `g` times one plus the error function of `g` over the root of two. -/
def gelu (g : EReal) : EReal :=
  Ideal.ofBits .f32 0x3F000000#32 * g
    * (1 + (FloatOps.erf (F := Ideal) (φ := .f32) (g * Named.named (F := Ideal) κ "inv_sqrt_2" (φ := .f32) 0x3F3504F3#32) : EReal))

/-- The two halo rows' groups of a block's hidden rows are scaled by whether a neighbour exists; the rest are kept. -/
def edge (f0 f1 : EReal) (s : ℕ) : EReal := if s < 16 then f0 else if s < 1040 then 1 else f1

/-- The hidden rows of a block and its halos: the row of `xb` times the weight, plus the bias, scaled at the edges. -/
def hid (f0 f1 : EReal) (xb : Vec Ideal S1056x1024 .bf16) (w : Vec Ideal S1024x256 .bf16) (b : Vec Ideal S1x256 .f32) :
    Vec Ideal S1056x256 .f32 :=
  fun i => (∑ k : Fin 1024, xb (ix2 (i 0 : Fin 1056) k) * w (ix2 k (i 1 : Fin 256)) + b (ix2 0 (i 1 : Fin 256))) * edge f0 f1 (i 0).val

/-- The three-tap convolution at row `r` of the block: hidden rows `r + 15`, `r + 16`, `r + 17` of the halo array. -/
def cnv (h : Vec Ideal S1056x256 .f32) (cw : Vec Ideal S3x256 .f32) (cb : Vec Ideal S1x256 .f32) (r : Fin 1024) (n : Fin 256) : EReal :=
  h (ix2 ⟨r.val + 15, by omega⟩ n) * cw (ix2 0 n) + h (ix2 ⟨r.val + 16, by omega⟩ n) * cw (ix2 1 n)
    + h (ix2 ⟨r.val + 17, by omega⟩ n) * cw (ix2 2 n) + cb (ix2 0 n)

/-- One column block's contribution added to the accumulator: the gated rows times the block of the down projection. -/
def accNext (hu hg : Vec Ideal S1056x256 .f32) (cwu cwg : Vec Ideal S3x256 .f32) (cbu cbg : Vec Ideal S1x256 .f32)
    (wo : Vec Ideal S256x1024 .bf16) (acc : Vec Ideal S1024x1024 .f32) : Vec Ideal S1024x1024 .f32 :=
  fun i => acc i + ∑ n : Fin 256, cnv hu cwu cbu (i 0) n * gelu (cnv hg cwg cbg (i 0) n) * wo (ix2 n (i 1 : Fin 1024))

/-- The layer norm of `alpha * x + acc + b` along a row, scaled and shifted. -/
def lnOut (x a : Vec Ideal S1024x1024 .f32) (b g e : Vec Ideal S1x1024 .f32) : Vec Ideal S1024x1024 .f32 :=
  fun i =>
    let z : Fin 1024 → EReal := fun n => Named.named (F := Ideal) κ "alpha" (φ := .f32) 0x3FD744FD#32 * x (ix2 (i 0 : Fin 1024) n) + a (ix2 (i 0 : Fin 1024) n) + b (ix2 0 n)
    let mu : EReal := Ideal.div (∑ n, z n) (Ideal.ofBits .f32 0x44800000#32)
    (z (i 1) - mu) * Ideal.rsqrt (Ideal.div (∑ n, (z n - mu) * (z n - mu)) (Ideal.ofBits .f32 0x44800000#32) + Ideal.ofBits .f32 0x3727C5AC#32)
      * g (ix2 0 (i 1 : Fin 1024)) + e (ix2 0 (i 1 : Fin 1024))

/-! ## The printed pieces at an index -/

theorem pay11_at (f : Ideal .f32) (X : Vec Ideal S544x1024 .bf16) (W : Vec Ideal S1024x256 .bf16) (B : Vec Ideal S1x256 .f32) (r : Fin 16) (n : Fin 256) :
    k0_pay11 (F := Ideal) f (k0_pay9 X W) B (ix2 r n) = (∑ k : Fin 1024, X (ix2 ⟨r.val, by omega⟩ k) * W (ix2 k n) + B (ix2 0 n)) * f := by
  pointwise [k0_pay11, k0_pay10, k0_pay9]

theorem pay12_at (X : Vec Ideal S544x1024 .bf16) (W : Vec Ideal S1024x256 .bf16) (B : Vec Ideal S1x256 .f32) (r : Fin 528) (n : Fin 256) :
    k0_pay12 (F := Ideal) (k0_pay9 X W) B (ix2 r n) = ∑ k : Fin 1024, X (ix2 ⟨16 + r.val, by omega⟩ k) * W (ix2 k n) + B (ix2 0 n) := by
  pointwise [k0_pay12, k0_pay10, k0_pay9]

theorem pay18_at (X : Vec Ideal S512x1024 .bf16) (W : Vec Ideal S1024x256 .bf16) (B : Vec Ideal S1x256 .f32) (r : Fin 496) (n : Fin 256) :
    k0_pay18 (F := Ideal) (k0_pay16 X W) B (ix2 r n) = ∑ k : Fin 1024, X (ix2 ⟨r.val, by omega⟩ k) * W (ix2 k n) + B (ix2 0 n) := by
  pointwise [k0_pay18, k0_pay17, k0_pay16]

theorem pay19_at (f : Ideal .f32) (X : Vec Ideal S512x1024 .bf16) (W : Vec Ideal S1024x256 .bf16) (B : Vec Ideal S1x256 .f32) (r : Fin 16) (n : Fin 256) :
    k0_pay19 (F := Ideal) f (k0_pay16 X W) B (ix2 r n) = (∑ k : Fin 1024, X (ix2 ⟨496 + r.val, by omega⟩ k) * W (ix2 k n) + B (ix2 0 n)) * f := by
  pointwise [k0_pay19, k0_pay17, k0_pay16]

/-- The gate's pieces are the up projection's, cut elsewhere by the printer. -/
theorem pay14_eq (f : Ideal .f32) (X : Vec Ideal S544x1024 .bf16) (W : Vec Ideal S1024x256 .bf16) (B : Vec Ideal S1x256 .f32) :
    k0_pay14 (F := Ideal) f X W B = k0_pay11 f (k0_pay9 X W) B := rfl
theorem pay15_eq (X : Vec Ideal S544x1024 .bf16) (W : Vec Ideal S1024x256 .bf16) (B : Vec Ideal S1x256 .f32) :
    k0_pay15 (F := Ideal) X W B = k0_pay12 (k0_pay9 X W) B := rfl
theorem pay21_eq (X : Vec Ideal S512x1024 .bf16) (W : Vec Ideal S1024x256 .bf16) (B : Vec Ideal S1x256 .f32) :
    k0_pay21 (F := Ideal) X W B = k0_pay18 (k0_pay16 X W) B := rfl
theorem pay22_eq (f : Ideal .f32) (X : Vec Ideal S512x1024 .bf16) (W : Vec Ideal S1024x256 .bf16) (B : Vec Ideal S1x256 .f32) :
    k0_pay22 (F := Ideal) f X W B = k0_pay19 f (k0_pay16 X W) B := rfl

/-- The convolution of three row windows of the halo array at an index. -/
def tap (C : Vec Ideal S3x256 .f32) (p q s : Vec Ideal S512x256 .f32) (B : Vec Ideal S1x256 .f32) (r : Fin 512) (n : Fin 256) : EReal :=
  p (ix2 r n) * C (ix2 0 n) + q (ix2 r n) * C (ix2 1 n) + s (ix2 r n) * C (ix2 2 n) + B (ix2 0 n)

/-- The first half's update of the accumulator. -/
theorem pay28_at (Cu Cg : Vec Ideal S3x256 .f32) (p q s p' q' s' : Vec Ideal S512x256 .f32) (Bu Bg : Vec Ideal S1x256 .f32)
    (A : Vec Ideal S512x1024 .f32) (W : Vec Ideal S256x1024 .bf16) (r : Fin 512) (c : Fin 1024) :
    k0_pay28 (F := Ideal) (k0_pay24 Cu p (k0_pay23 Cu) q s Bu) (k0_pay26 Cg p' q' s' Bg) (k0_pay27 Cg p' q' s' Bg) A W (ix2 r c)
      = A (ix2 r c) + ∑ n : Fin 256, tap Cu p q s Bu r n * gelu (tap Cg p' q' s' Bg r n) * W (ix2 n c) := by
  unfold tap gelu
  pointwise [k0_pay28, k0_pay24, k0_pay23, k0_pay26, k0_pay27, k0_pay25]

/-- The second half's. -/
theorem pay1_at (Cu Cg : Vec Ideal S3x256 .f32) (p q s p' q' s' : Vec Ideal S512x256 .f32) (Bu Bg : Vec Ideal S1x256 .f32)
    (A : Vec Ideal S512x1024 .f32) (W : Vec Ideal S256x1024 .bf16) (r : Fin 512) (c : Fin 1024) :
    k0_pay1 (F := Ideal) (k0_pay29 Cu p q s Bu) Cg (k0_pay30 Cg p') q' s' Bg A W (ix2 r c)
      = A (ix2 r c) + ∑ n : Fin 256, tap Cu p q s Bu r n * gelu (tap Cg p' q' s' Bg r n) * W (ix2 n c) := by
  unfold tap gelu
  pointwise [k0_pay1, k0_pay29, k0_pay30]

theorem pay2_eq (x a : Vec Ideal S1024x1024 .f32) (b g e : Vec Ideal S1x1024 .f32) :
    k0_pay2 (F := Ideal) x a b g e = lnOut x a b g e := by
  funext i
  obtain ⟨r, n, rfl⟩ : ∃ (r : Fin 1024) (n : Fin 1024), i = ix2 r n := ⟨i 0, i 1, eq_ix2 i⟩
  unfold lnOut
  pointwise [k0_pay2]

/-- A change of float format is the identity. -/
theorem pay3_eq (x : Vec Ideal S16x1024 .f32) : k0_pay3 (F := Ideal) x = x := by
  funext i; pointwise [k0_pay3]
theorem pay4_eq (x : Vec Ideal S1024x1024 .f32) : k0_pay4 (F := Ideal) x = x := by
  funext i; pointwise [k0_pay4]
theorem pay5_eq (x : Vec Ideal S16x1024 .f32) : k0_pay5 (F := Ideal) x = x := by
  funext i; pointwise [k0_pay5]
theorem pay6_eq : k0_pay6 (F := Ideal) = fun _ => (0 : EReal) := by
  funext i; pointwise [k0_pay6]

/-! ## The neighbour flags -/

/-- A one-bit flag converted to a float. -/
theorem flag_zero : Scalar.sitofp (F := Ideal) .f32 (Scalar.extui 0#1 : BitVec 32) = (0 : EReal) := by
  rw [Ideal.scalar_sitofp_def]
  have h : (Scalar.extui 0#1 : BitVec 32).toInt = 0 := by decide
  rw [h]; simp
theorem flag_one : Scalar.sitofp (F := Ideal) .f32 (Scalar.extui 1#1 : BitVec 32) = (1 : EReal) := by
  rw [Ideal.scalar_sitofp_def]
  have h : (Scalar.extui 1#1 : BitVec 32).toInt = 1 := by decide
  rw [h]; simp

/-- The remainder by four as the printed words compute it, compared with a constant. -/
def remNe (k : BitVec 32) (a : ℕ) : BitVec 1 :=
  let d : BitVec 32 := Scalar.select (Scalar.cmpi .eq 4#32 0#32) 1#32 4#32
  let m : BitVec 32 := Scalar.remsi (BitVec.ofNat 32 a) d
  Scalar.cmpi .ne (Scalar.select (Scalar.andi (Scalar.xori (Scalar.cmpi .slt m 0#32) (Scalar.cmpi .slt d 0#32)) (Scalar.cmpi .ne m 0#32)) (Scalar.addi m d) m) k

theorem remNe_zero : ∀ a : Fin 16, remNe 0#32 a.val = if a.val % 4 = 0 then 0#1 else 1#1 := by decide +kernel
theorem remNe_three : ∀ a : Fin 16, remNe 3#32 a.val = if a.val % 4 = 3 then 0#1 else 1#1 := by decide +kernel

/-- A block has a previous neighbour in its sequence unless it is the first of its four. -/
theorem pay7_eq (i : grid0.Coords) : k0_pay7 (F := Ideal) i = if (i 0).val % 4 = 0 then (0 : EReal) else 1 := by
  show Scalar.sitofp (F := Ideal) .f32 (Scalar.extui (remNe 0#32 (i 0).val) : BitVec 32) = _
  rw [remNe_zero (i 0)]
  by_cases hz : (i 0).val % 4 = 0
  · rw [if_pos hz, if_pos hz]; exact flag_zero
  · rw [if_neg hz, if_neg hz]; exact flag_one

/-- A block has a next neighbour in its sequence unless it is the last of its four. -/
theorem pay8_eq (i : grid0.Coords) : k0_pay8 (F := Ideal) i = if (i 0).val % 4 = 3 then (0 : EReal) else 1 := by
  show Scalar.sitofp (F := Ideal) .f32 (Scalar.extui (remNe 3#32 (i 0).val) : BitVec 32) = _
  rw [remNe_three (i 0)]
  by_cases hz : (i 0).val % 4 = 3
  · rw [if_pos hz, if_pos hz]; exact flag_zero
  · rw [if_neg hz, if_neg hz]; exact flag_one

/-! ## The scratch arrays of hidden rows -/

/-- A window of whole rows of a two-axis array embeds an index by adding the first row. -/
theorem emb_at {a b a' : ℕ} (o : ℕ) (inb : ∀ x, (![o, 0] : Fin 2 → ℕ) x + (![a', b] : Fin 2 → ℕ) x ≤ (⟨2, ![a, b]⟩ : Shape).size x)
    (r : Fin a') (c : Fin b) (hr : o + r.val < a) :
    (Rect.unit (s := ⟨2, ![a, b]⟩) ![o, 0] ![a', b] inb).emb (ix2 r c) = ix2 ⟨o + r.val, hr⟩ c := by
  funext x
  apply Fin.ext
  fin_cases x
  · show o + 1 * r.val = o + r.val; omega
  · show 0 + 1 * c.val = c.val; omega

/-- A row in the window is in its index set. -/
theorem mem_rows {a b m : ℕ} (o : ℕ) (inb : ∀ x, (![o, 0] : Fin 2 → ℕ) x + (![m, b] : Fin 2 → ℕ) x ≤ (⟨2, ![a, b]⟩ : Shape).size x)
    (y : (⟨2, ![a, b]⟩ : Shape).Idx) (ha : o ≤ (y 0).val) (hb : (y 0).val < o + m) :
    y ∈ (Rect.unit (s := ⟨2, ![a, b]⟩) ![o, 0] ![m, b] inb).set := by
  have h1 : (y 1).val < b := (y 1).isLt
  refine Rect.mem_set_unit.mpr fun x => ?_
  fin_cases x
  · exact ⟨ha, hb⟩
  · exact ⟨Nat.zero_le _, by show (y 1).val < 0 + b; omega⟩

/-- A load of a window of whole rows at an index. -/
theorem ld_at {a b a' : ℕ} {e : EltTy} (X : (⟨2, ![a, b]⟩ : Shape).Idx → Elt Ideal e) (o : ℕ)
    (inb : ∀ x, (![o, 0] : Fin 2 → ℕ) x + (![a', b] : Fin 2 → ℕ) x ≤ (⟨2, ![a, b]⟩ : Shape).size x)
    (r : Fin a') (c : Fin b) (hr : o + r.val < a) :
    View.ld X (Rect.unit (s := ⟨2, ![a, b]⟩) ![o, 0] ![a', b] inb) (ix2 r c) = X (ix2 ⟨o + r.val, hr⟩ c) :=
  congrArg X (emb_at o inb r c hr)

/-- The hidden value at a row named by its number. -/
theorem hid_at (f0 f1 : EReal) (xb : Vec Ideal S1056x1024 .bf16) (w : Vec Ideal S1024x256 .bf16) (b : Vec Ideal S1x256 .f32)
    (s : Fin 1056) (n : Fin 256) :
    hid f0 f1 xb w b (ix2 s n) = (∑ k : Fin 1024, xb (ix2 s k) * w (ix2 k n) + b (ix2 0 n)) * edge f0 f1 s.val := rfl

/-- A window of loaded rows times a column. -/
theorem ld_dot {m : ℕ} (X : Vec Ideal S1056x1024 .bf16) (w : Vec Ideal S1024x256 .bf16) (o : ℕ)
    (inb : ∀ x, (![o, 0] : Fin 2 → ℕ) x + (![m, 1024] : Fin 2 → ℕ) x ≤ (⟨2, ![1056, 1024]⟩ : Shape).size x)
    (r : Fin m) (s : Fin 1056) (hs : s.val = o + r.val) (n : Fin 256) :
    ∑ k : Fin 1024, View.ld X (Rect.unit (s := S1056x1024) ![o, 0] ![m, 1024] inb) (ix2 r k) * w (ix2 k n) = ∑ k : Fin 1024, X (ix2 s k) * w (ix2 k n) := by
  have hr : o + r.val < 1056 := hs ▸ s.isLt
  refine Finset.sum_congr rfl fun k _ => congrArg (· * w (ix2 k n)) ?_
  refine (ld_at X o inb r k hr).trans (congrArg X (congrArg (fun q => ix2 q k) (Fin.ext hs.symm)))

/-- The four row windows the body stores cover the halo array. -/
theorem cover4 (w3 : (Rect.unit (s := S1056x256) ![1040, 0] S16x256.size inb_S1056x256_S16x256_1040_0).shape.Idx → Elt Ideal .f32)
    (w2 : (Rect.unit (s := S1056x256) ![544, 0] S496x256.size inb_S1056x256_S496x256_544_0).shape.Idx → Elt Ideal .f32)
    (w1 : (Rect.unit (s := S1056x256) ![16, 0] S528x256.size inb_S1056x256_S528x256_16_0).shape.Idx → Elt Ideal .f32)
    (w0 : (Rect.unit (s := S1056x256) ![0, 0] S16x256.size inb_S1056x256_S16x256_0_0).shape.Idx → Elt Ideal .f32) (y : S1056x256.Idx) :
    ∃ p ∈ ([⟨_, w3⟩, ⟨_, w2⟩, ⟨_, w1⟩, ⟨_, w0⟩] : List (View.Piece (Elt Ideal) S1056x256 .f32)), y ∈ p.1.set := by
  have h0 : (y 0).val < 1056 := (y 0).isLt
  have hall : ∀ (o m : ℕ) (inb : ∀ x, (![o, 0] : Fin 2 → ℕ) x + (![m, 256] : Fin 2 → ℕ) x ≤ S1056x256.size x),
      o ≤ (y 0).val → (y 0).val < o + m → y ∈ (Rect.unit (s := S1056x256) ![o, 0] ![m, 256] inb).set :=
    fun o m inb ha hb => mem_rows o inb y ha hb
  by_cases c1 : (y 0).val < 16
  · exact ⟨_, List.mem_cons_of_mem _ (List.mem_cons_of_mem _ (List.mem_cons_of_mem _ List.mem_cons_self)), hall 0 16 inb_S1056x256_S16x256_0_0 (Nat.zero_le _) (by omega)⟩
  by_cases c2 : (y 0).val < 544
  · exact ⟨_, List.mem_cons_of_mem _ (List.mem_cons_of_mem _ List.mem_cons_self), hall 16 528 inb_S1056x256_S528x256_16_0 (by omega) (by omega)⟩
  by_cases c3 : (y 0).val < 1040
  · exact ⟨_, List.mem_cons_of_mem _ List.mem_cons_self, hall 544 496 inb_S1056x256_S496x256_544_0 (by omega) (by omega)⟩
  · exact ⟨_, List.mem_cons_self, hall 1040 16 inb_S1056x256_S16x256_1040_0 (by omega) (by omega)⟩

/-- The hidden rows' array, from the four stores that fill it. -/
theorem hid_canon (f0 f1 : EReal) (xb : Vec Ideal S1056x1024 .bf16) (w : Vec Ideal S1024x256 .bf16) (b : Vec Ideal S1x256 .f32) :
    View.canon (Val := Elt Ideal) (s := S1056x256) (e := .f32)
      [⟨Rect.unit (s := S1056x256) ![1040, 0] ![16, 256] inb_S1056x256_S16x256_1040_0,
          k0_pay19 (F := Ideal) f1 (k0_pay16 (View.ld xb (Rect.unit (s := S1056x1024) ![544, 0] ![512, 1024] inb_S1056x1024_S512x1024_544_0)) w) b⟩,
       ⟨Rect.unit (s := S1056x256) ![544, 0] ![496, 256] inb_S1056x256_S496x256_544_0,
          k0_pay18 (F := Ideal) (k0_pay16 (View.ld xb (Rect.unit (s := S1056x1024) ![544, 0] ![512, 1024] inb_S1056x1024_S512x1024_544_0)) w) b⟩,
       ⟨Rect.unit (s := S1056x256) ![16, 0] ![528, 256] inb_S1056x256_S528x256_16_0,
          k0_pay12 (F := Ideal) (k0_pay9 (View.ld xb (Rect.unit (s := S1056x1024) ![0, 0] ![544, 1024] inb_S1056x1024_S544x1024_0_0)) w) b⟩,
       ⟨Rect.unit (s := S1056x256) ![0, 0] ![16, 256] inb_S1056x256_S16x256_0_0,
          k0_pay11 (F := Ideal) f0 (k0_pay9 (View.ld xb (Rect.unit (s := S1056x1024) ![0, 0] ![544, 1024] inb_S1056x1024_S544x1024_0_0)) w) b⟩]
      = hid f0 f1 xb w b := by
  funext y
  refine View.canon_apply_of_pieces (hid f0 f1 xb w b) _ ?_ y ?_
  · intro p hp x
    simp only [List.mem_cons, List.not_mem_nil, or_false] at hp
    rcases hp with rfl | rfl | rfl | rfl
    · obtain ⟨r, n, rfl⟩ : ∃ (r : Fin 16) (n : Fin 256), x = ix2 r n := ⟨x 0, x 1, eq_ix2 x⟩
      refine (pay19_at _ _ _ _ r n).trans (Eq.trans ?_ (congrArg (hid f0 f1 xb w b) (emb_at 1040 inb_S1056x256_S16x256_1040_0 r n (by omega))).symm)
      rw [hid_at, edge, if_neg (by dsimp only; omega), if_neg (by dsimp only; omega)]
      exact congrArg (fun q => (q + b (ix2 0 n)) * f1) (ld_dot xb w 544 _ _ _ (by dsimp only; omega) n)
    · obtain ⟨r, n, rfl⟩ : ∃ (r : Fin 496) (n : Fin 256), x = ix2 r n := ⟨x 0, x 1, eq_ix2 x⟩
      refine (pay18_at _ _ _ r n).trans (Eq.trans ?_ (congrArg (hid f0 f1 xb w b) (emb_at 544 inb_S1056x256_S496x256_544_0 r n (by omega))).symm)
      rw [hid_at, edge, if_neg (by dsimp only; omega), if_pos (by dsimp only; omega), mul_one]
      exact congrArg (fun q => q + b (ix2 0 n)) (ld_dot xb w 544 _ _ _ (by dsimp only) n)
    · obtain ⟨r, n, rfl⟩ : ∃ (r : Fin 528) (n : Fin 256), x = ix2 r n := ⟨x 0, x 1, eq_ix2 x⟩
      refine (pay12_at _ _ _ r n).trans (Eq.trans ?_ (congrArg (hid f0 f1 xb w b) (emb_at 16 inb_S1056x256_S528x256_16_0 r n (by omega))).symm)
      rw [hid_at, edge, if_neg (by dsimp only; omega), if_pos (by dsimp only; omega), mul_one]
      exact congrArg (fun q => q + b (ix2 0 n)) (ld_dot xb w 0 _ _ _ (by dsimp only; omega) n)
    · obtain ⟨r, n, rfl⟩ : ∃ (r : Fin 16) (n : Fin 256), x = ix2 r n := ⟨x 0, x 1, eq_ix2 x⟩
      refine (pay11_at _ _ _ _ r n).trans (Eq.trans ?_ (congrArg (hid f0 f1 xb w b) (emb_at 0 inb_S1056x256_S16x256_0_0 r n (by omega))).symm)
      rw [hid_at, edge, if_pos (by dsimp only; omega)]
      exact congrArg (fun q => (q + b (ix2 0 n)) * f0) (ld_dot xb w 0 _ _ _ (by dsimp only) n)
  · exact cover4 _ _ _ _ y

/-! ## The block's input rows with their halos -/

/-- The rows a block reads: sixteen before it, its own 1024, sixteen after it. -/
def halo (x : Vec Ideal S1024x1024 .f32) (xp xn : Vec Ideal S16x1024 .f32) : Vec Ideal S1056x1024 .bf16 := fun i =>
  if h : (i 0).val < 16 then xp (ix2 ⟨(i 0).val, h⟩ (i 1 : Fin 1024))
  else if h' : (i 0).val < 1040 then x (ix2 ⟨(i 0).val - 16, by omega⟩ (i 1 : Fin 1024))
  else xn (ix2 ⟨(i 0).val - 1040, by have := (i 0).isLt; change (i 0).val < 1056 at this; omega⟩ (i 1 : Fin 1024))

theorem halo_canon (x : Vec Ideal S1024x1024 .f32) (xp xn : Vec Ideal S16x1024 .f32) :
    View.canon (Val := Elt Ideal) (s := S1056x1024) (e := .bf16)
      [⟨Rect.unit (s := S1056x1024) ![1040, 0] ![16, 1024] inb_S1056x1024_S16x1024_1040_0, k0_pay5 (F := Ideal) xn⟩,
       ⟨Rect.unit (s := S1056x1024) ![16, 0] ![1024, 1024] inb_S1056x1024_S1024x1024_16_0, k0_pay4 (F := Ideal) x⟩,
       ⟨Rect.unit (s := S1056x1024) ![0, 0] ![16, 1024] inb_S1056x1024_S16x1024_0_0, k0_pay3 (F := Ideal) xp⟩]
      = halo x xp xn := by
  rw [pay3_eq, pay4_eq, pay5_eq]
  funext y
  refine View.canon_apply_of_pieces (halo x xp xn) _ ?_ y ?_
  · intro p hp q
    simp only [List.mem_cons, List.not_mem_nil, or_false] at hp
    rcases hp with rfl | rfl | rfl
    · obtain ⟨r, n, rfl⟩ : ∃ (r : Fin 16) (n : Fin 1024), q = ix2 r n := ⟨q 0, q 1, eq_ix2 q⟩
      refine Eq.trans ?_ (congrArg (halo x xp xn) (emb_at 1040 inb_S1056x1024_S16x1024_1040_0 r n (by omega))).symm
      have e1 : ¬ 1040 + r.val < 16 := by omega
      have e2 : ¬ 1040 + r.val < 1040 := by omega
      refine Eq.trans ?_ ((dif_neg e1).trans (dif_neg e2)).symm
      exact congrArg xn (congrArg (fun z => ix2 z n) (Fin.ext (by show r.val = 1040 + r.val - 1040; omega)))
    · obtain ⟨r, n, rfl⟩ : ∃ (r : Fin 1024) (n : Fin 1024), q = ix2 r n := ⟨q 0, q 1, eq_ix2 q⟩
      refine Eq.trans ?_ (congrArg (halo x xp xn) (emb_at 16 inb_S1056x1024_S1024x1024_16_0 r n (by omega))).symm
      have e1 : ¬ 16 + r.val < 16 := by omega
      have e2 : 16 + r.val < 1040 := by omega
      refine Eq.trans ?_ ((dif_neg e1).trans (dif_pos e2)).symm
      exact congrArg x (congrArg (fun z => ix2 z n) (Fin.ext (by show r.val = 16 + r.val - 16; omega)))
    · obtain ⟨r, n, rfl⟩ : ∃ (r : Fin 16) (n : Fin 1024), q = ix2 r n := ⟨q 0, q 1, eq_ix2 q⟩
      refine Eq.trans ?_ (congrArg (halo x xp xn) (emb_at 0 inb_S1056x1024_S16x1024_0_0 r n (by omega))).symm
      have e1 : 0 + r.val < 16 := by omega
      refine Eq.trans ?_ (dif_pos e1).symm
      exact congrArg xp (congrArg (fun z => ix2 z n) (Fin.ext (by show r.val = 0 + r.val; omega)))
  · have h0 : (y 0).val < 1056 := (y 0).isLt
    have hall : ∀ (o m : ℕ) (inb : ∀ x, (![o, 0] : Fin 2 → ℕ) x + (![m, 1024] : Fin 2 → ℕ) x ≤ S1056x1024.size x),
        o ≤ (y 0).val → (y 0).val < o + m → y ∈ (Rect.unit (s := S1056x1024) ![o, 0] ![m, 1024] inb).set :=
      fun o m inb ha hb => mem_rows o inb y ha hb
    by_cases c1 : (y 0).val < 16
    · exact ⟨_, List.mem_cons_of_mem _ (List.mem_cons_of_mem _ List.mem_cons_self), hall 0 16 inb_S1056x1024_S16x1024_0_0 (Nat.zero_le _) (by omega)⟩
    by_cases c2 : (y 0).val < 1040
    · exact ⟨_, List.mem_cons_of_mem _ List.mem_cons_self, hall 16 1024 inb_S1056x1024_S1024x1024_16_0 (by omega) (by omega)⟩
    · exact ⟨_, List.mem_cons_self, hall 1040 16 inb_S1056x1024_S16x1024_1040_0 (by omega) (by omega)⟩

/-! ## The accumulator's two halves -/

/-- Two stores of the two row halves leave the array whose halves they are, whatever was stored before. -/
theorem halves_canon (G : Vec Ideal S1024x1024 .f32) (w1 w0 : Vec Ideal S512x1024 .f32) (L : List (View.Piece (Elt Ideal) S1024x1024 .f32))
    (h1 : ∀ (r : Fin 512) (c : Fin 1024), w1 (ix2 r c) = G (ix2 ⟨512 + r.val, by omega⟩ c))
    (h0 : ∀ (r : Fin 512) (c : Fin 1024), w0 (ix2 r c) = G (ix2 ⟨r.val, by omega⟩ c)) :
    View.canon (Val := Elt Ideal) (s := S1024x1024) (e := .f32)
      (⟨Rect.unit (s := S1024x1024) ![512, 0] ![512, 1024] inb_S1024x1024_S512x1024_512_0, w1⟩
        :: ⟨Rect.unit (s := S1024x1024) ![0, 0] ![512, 1024] inb_S1024x1024_S512x1024_0_0, w0⟩ :: L) = G := by
  funext y
  obtain ⟨r, c, rfl⟩ : ∃ (r : Fin 1024) (c : Fin 1024), y = ix2 r c := ⟨y 0, y 1, eq_ix2 y⟩
  by_cases hr : r.val < 512
  · have hn : (ix2 r c : S1024x1024.Idx) ∉ (Rect.unit (s := S1024x1024) ![512, 0] ![512, 1024] inb_S1024x1024_S512x1024_512_0).set := fun hm => by
      have := (Rect.mem_set_unit.mp hm 0).1
      change 512 ≤ r.val at this
      omega
    refine (View.canon_cons_of_not_mem (Val := Elt Ideal) ⟨Rect.unit (s := S1024x1024) ![512, 0] ![512, 1024] inb_S1024x1024_S512x1024_512_0, w1⟩
      (⟨Rect.unit (s := S1024x1024) ![0, 0] ![512, 1024] inb_S1024x1024_S512x1024_0_0, w0⟩ :: L) hn).trans ?_
    have k := View.canon_cons_emb (Val := Elt Ideal) (Rect.unit (s := S1024x1024) ![0, 0] ![512, 1024] inb_S1024x1024_S512x1024_0_0) w0 L (ix2 (⟨r.val, hr⟩ : Fin 512) c)
    rw [emb_at 0 inb_S1024x1024_S512x1024_0_0 (⟨r.val, hr⟩ : Fin 512) c (by show 0 + r.val < 1024; omega)] at k
    rw [show (⟨0 + (⟨r.val, hr⟩ : Fin 512).val, by show 0 + r.val < 1024; omega⟩ : Fin 1024) = r from Fin.ext (Nat.zero_add _)] at k
    exact k.trans (h0 ⟨r.val, hr⟩ c)
  · have hr' : r.val - 512 < 512 := by omega
    have e : (⟨512 + (⟨r.val - 512, hr'⟩ : Fin 512).val, by show 512 + (r.val - 512) < 1024; omega⟩ : Fin 1024) = r :=
      Fin.ext (by show 512 + (r.val - 512) = r.val; omega)
    have k := View.canon_cons_emb (Val := Elt Ideal) (Rect.unit (s := S1024x1024) ![512, 0] ![512, 1024] inb_S1024x1024_S512x1024_512_0) w1
      (⟨Rect.unit (s := S1024x1024) ![0, 0] ![512, 1024] inb_S1024x1024_S512x1024_0_0, w0⟩ :: L) (ix2 (⟨r.val - 512, hr'⟩ : Fin 512) c)
    rw [emb_at 512 inb_S1024x1024_S512x1024_512_0 (⟨r.val - 512, hr'⟩ : Fin 512) c (by show 512 + (r.val - 512) < 1024; omega), e] at k
    refine k.trans ((h1 ⟨r.val - 512, hr'⟩ c).trans ?_)
    rw [e]

/-- Three windows of the halo array one row apart give the convolution. -/
theorem tap_ld (h : Vec Ideal S1056x256 .f32) (cw : Vec Ideal S3x256 .f32) (cb : Vec Ideal S1x256 .f32) (o : ℕ)
    (i0 : ∀ x, (![o + 15, 0] : Fin 2 → ℕ) x + (![512, 256] : Fin 2 → ℕ) x ≤ (⟨2, ![1056, 256]⟩ : Shape).size x)
    (i1 : ∀ x, (![o + 16, 0] : Fin 2 → ℕ) x + (![512, 256] : Fin 2 → ℕ) x ≤ (⟨2, ![1056, 256]⟩ : Shape).size x)
    (i2 : ∀ x, (![o + 17, 0] : Fin 2 → ℕ) x + (![512, 256] : Fin 2 → ℕ) x ≤ (⟨2, ![1056, 256]⟩ : Shape).size x)
    (r : Fin 512) (n : Fin 256) (s : Fin 1024) (hs : s.val = o + r.val) :
    tap cw (View.ld h (Rect.unit (s := S1056x256) ![o + 15, 0] ![512, 256] i0)) (View.ld h (Rect.unit (s := S1056x256) ![o + 16, 0] ![512, 256] i1))
      (View.ld h (Rect.unit (s := S1056x256) ![o + 17, 0] ![512, 256] i2)) cb r n = cnv h cw cb s n := by
  have hh : ∀ (d : ℕ) (i : ∀ x, (![o + d, 0] : Fin 2 → ℕ) x + (![512, 256] : Fin 2 → ℕ) x ≤ (⟨2, ![1056, 256]⟩ : Shape).size x) (hd : s.val + d < 1056),
      View.ld (Val := Elt Ideal) h (Rect.unit (s := S1056x256) ![o + d, 0] ![512, 256] i) (ix2 r n) = h (ix2 ⟨s.val + d, hd⟩ n) := fun d i hd =>
    (ld_at h (o + d) i r n (by omega)).trans (congrArg h (congrArg (fun z => ix2 z n) (Fin.ext (by show o + d + r.val = s.val + d; omega))))
  unfold tap cnv
  rw [hh 15 i0 (by omega), hh 16 i1 (by omega), hh 17 i2 (by omega)]

/-- The accumulator after a point: both halves updated. -/
theorem acc_canon (hu hg : Vec Ideal S1056x256 .f32) (cu cg : Vec Ideal S3x256 .f32) (bu bg : Vec Ideal S1x256 .f32)
    (wo : Vec Ideal S256x1024 .bf16) (acc : Vec Ideal S1024x1024 .f32) (a1 a0 : Vec Ideal S512x1024 .f32)
    (L : List (View.Piece (Elt Ideal) S1024x1024 .f32))
    (h1 : ∀ (r : Fin 512) (c : Fin 1024), a1 (ix2 r c) = acc (ix2 ⟨512 + r.val, by omega⟩ c))
    (h0 : ∀ (r : Fin 512) (c : Fin 1024), a0 (ix2 r c) = acc (ix2 ⟨r.val, by omega⟩ c)) :
    View.canon (Val := Elt Ideal) (s := S1024x1024) (e := .f32)
      (⟨Rect.unit (s := S1024x1024) ![512, 0] ![512, 1024] inb_S1024x1024_S512x1024_512_0,
          k0_pay1 (F := Ideal)
            (k0_pay29 cu (View.ld hu (Rect.unit (s := S1056x256) ![527, 0] ![512, 256] inb_S1056x256_S512x256_527_0)) (View.ld hu (Rect.unit (s := S1056x256) ![528, 0] ![512, 256] inb_S1056x256_S512x256_528_0)) (View.ld hu (Rect.unit (s := S1056x256) ![529, 0] ![512, 256] inb_S1056x256_S512x256_529_0)) bu)
            cg (k0_pay30 cg (View.ld hg (Rect.unit (s := S1056x256) ![527, 0] ![512, 256] inb_S1056x256_S512x256_527_0))) (View.ld hg (Rect.unit (s := S1056x256) ![528, 0] ![512, 256] inb_S1056x256_S512x256_528_0)) (View.ld hg (Rect.unit (s := S1056x256) ![529, 0] ![512, 256] inb_S1056x256_S512x256_529_0)) bg a1 wo⟩
        :: ⟨Rect.unit (s := S1024x1024) ![0, 0] ![512, 1024] inb_S1024x1024_S512x1024_0_0,
          k0_pay28 (F := Ideal)
            (k0_pay24 cu (View.ld hu (Rect.unit (s := S1056x256) ![15, 0] ![512, 256] inb_S1056x256_S512x256_15_0)) (k0_pay23 cu) (View.ld hu (Rect.unit (s := S1056x256) ![16, 0] ![512, 256] inb_S1056x256_S512x256_16_0)) (View.ld hu (Rect.unit (s := S1056x256) ![17, 0] ![512, 256] inb_S1056x256_S512x256_17_0)) bu)
            (k0_pay26 cg (View.ld hg (Rect.unit (s := S1056x256) ![15, 0] ![512, 256] inb_S1056x256_S512x256_15_0)) (View.ld hg (Rect.unit (s := S1056x256) ![16, 0] ![512, 256] inb_S1056x256_S512x256_16_0)) (View.ld hg (Rect.unit (s := S1056x256) ![17, 0] ![512, 256] inb_S1056x256_S512x256_17_0)) bg)
            (k0_pay27 cg (View.ld hg (Rect.unit (s := S1056x256) ![15, 0] ![512, 256] inb_S1056x256_S512x256_15_0)) (View.ld hg (Rect.unit (s := S1056x256) ![16, 0] ![512, 256] inb_S1056x256_S512x256_16_0)) (View.ld hg (Rect.unit (s := S1056x256) ![17, 0] ![512, 256] inb_S1056x256_S512x256_17_0)) bg) a0 wo⟩ :: L)
      = accNext hu hg cu cg bu bg wo acc := by
  refine halves_canon _ _ _ L (fun r c => ?_) (fun r c => ?_)
  · rw [pay1_at, h1 r c]
    refine congrArg (_ + ·) (Finset.sum_congr rfl fun n _ => ?_)
    rw [tap_ld hu cu bu 512 inb_S1056x256_S512x256_527_0 inb_S1056x256_S512x256_528_0 inb_S1056x256_S512x256_529_0 r n ⟨512 + r.val, by omega⟩ rfl,
      tap_ld hg cg bg 512 inb_S1056x256_S512x256_527_0 inb_S1056x256_S512x256_528_0 inb_S1056x256_S512x256_529_0 r n ⟨512 + r.val, by omega⟩ rfl]
    rfl
  · rw [pay28_at, h0 r c]
    refine congrArg (_ + ·) (Finset.sum_congr rfl fun n _ => ?_)
    rw [tap_ld hu cu bu 0 inb_S1056x256_S512x256_15_0 inb_S1056x256_S512x256_16_0 inb_S1056x256_S512x256_17_0 r n ⟨r.val, by omega⟩ (by simp),
      tap_ld hg cg bg 0 inb_S1056x256_S512x256_15_0 inb_S1056x256_S512x256_16_0 inb_S1056x256_S512x256_17_0 r n ⟨r.val, by omega⟩ (by simp)]
    rfl

end Cert.FfnIdeal.Ffn
end
-- ==== Proof.Shared.Arrays.lean ====
/- Two-axis arrays loaded, stored and indexed as a whole. -/
module

public import Idealize.ShloMosaic.Lib.Pointwise
public import Idealize.ShloMosaic.Lib.Tactic
public import Idealize.ShloMosaic.Lib.Pipeline.Value

@[expose] public section

noncomputable section

namespace Cert.Shared

open Idealize.ShloMosaic

/-- A load of a whole two-axis array is the array. -/
theorem ld_whole {a b : ℕ} {e : EltTy} (X : (⟨2, ![a, b]⟩ : Shape).Idx → Elt Ideal e)
    (inb : ∀ x, (![0, 0] : Fin 2 → ℕ) x + (![a, b] : Fin 2 → ℕ) x ≤ (⟨2, ![a, b]⟩ : Shape).size x) :
    View.ld X (Rect.unit (s := ⟨2, ![a, b]⟩) ![0, 0] ![a, b] inb) = X :=
  View.ld_unit_zero (by funext x; fin_cases x <;> rfl) inb X

/-- A store of a whole two-axis array leaves its payload. -/
theorem canon_whole {a b : ℕ} {e : EltTy}
    (inb : ∀ x, (![0, 0] : Fin 2 → ℕ) x + (![a, b] : Fin 2 → ℕ) x ≤ (⟨2, ![a, b]⟩ : Shape).size x) (w : (⟨2, ![a, b]⟩ : Shape).Idx → Elt Ideal e)
    (L : List (View.Piece (Elt Ideal) ⟨2, ![a, b]⟩ e)) :
    View.canon ((⟨Rect.unit (s := ⟨2, ![a, b]⟩) ![0, 0] ![a, b] inb, w⟩ : View.Piece (Elt Ideal) ⟨2, ![a, b]⟩ e) :: L) = w :=
  View.canon_cons_unit_zero (by funext x; fin_cases x <;> rfl) inb w L

/-- A two-axis index is named by its coordinates' numbers. -/
theorem idx_eq {a b : ℕ} (z : (⟨2, ![a, b]⟩ : Shape).Idx) (r : Fin a) (k : Fin b) (h0 : (z 0).val = r.val) (h1 : (z 1).val = k.val) :
    z = ix2 r k := by
  funext x; apply Fin.ext; fin_cases x
  · exact h0
  · exact h1

end Cert.Shared
end
-- ==== Proof.Ffn.Block.lean ====
/- What one grid point of the ConvFFN kernel leaves in its scratch arrays and in its output block. -/
module

public import proofs.«01_k».proof.Proof.Gen.FfnIdeal.Frame
public import proofs.«01_k».proof.Proof.Ffn.Payloads
public import proofs.«01_k».proof.Proof.Shared.Arrays
public import Idealize.ShloMosaic.Lib.Tactic

@[expose] public section

set_option maxRecDepth 16384

noncomputable section

namespace Cert.FfnIdeal.Ffn

open Cert.FfnIdeal Cert.FfnIdeal.Gen Cert.Shared Idealize.ShloMosaic Idealize.ShloMosaic.TcCoe

variable (c : Dev nD) (i : grid0.Coords)
  (arg2 : Memref sig .tc .vmem S1024x1024 .f32) (harg2 : arg2.IsWhole)
  (arg3 : Memref sig .tc .vmem S16x1024 .f32) (harg3 : arg3.IsWhole)
  (arg4 : Memref sig .tc .vmem S16x1024 .f32) (harg4 : arg4.IsWhole)
  (arg5 : Memref sig .tc .vmem S1024x256 .bf16) (harg5 : arg5.IsWhole)
  (arg6 : Memref sig .tc .vmem S1024x256 .bf16) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S3x256 .f32) (harg9 : arg9.IsWhole)
  (arg10 : Memref sig .tc .vmem S3x256 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S256x1024 .bf16) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1024x1024 .f32) (harg17 : arg17.IsWhole)
  (arg18 : Memref sig .tc .vmem S1056x1024 .bf16) (harg18 : arg18.IsWhole)
  (arg19 : Memref sig .tc .vmem S1056x256 .f32) (harg19 : arg19.IsWhole)
  (arg20 : Memref sig .tc .vmem S1056x256 .f32) (harg20 : arg20.IsWhole)
  (arg21 : Memref sig .tc .vmem S1024x1024 .f32) (harg21 : arg21.IsWhole)
variable (x0 : Vec Ideal S1024x1024 .f32) (x1 : Vec Ideal S16x1024 .f32) (x2 : Vec Ideal S16x1024 .f32) (x3 : Vec Ideal S1024x256 .bf16) (x4 : Vec Ideal S1024x256 .bf16) (x5 : Vec Ideal S1x256 .f32) (x6 : Vec Ideal S1x256 .f32) (x7 : Vec Ideal S3x256 .f32) (x8 : Vec Ideal S3x256 .f32) (x9 : Vec Ideal S1x256 .f32) (x10 : Vec Ideal S1x256 .f32) (x11 : Vec Ideal S256x1024 .bf16) (x12 : Vec Ideal S1x1024 .f32) (x13 : Vec Ideal S1x1024 .f32) (x14 : Vec Ideal S1x1024 .f32)
  (xs0 : Vec Ideal S1056x1024 .bf16) (xs3 : Vec Ideal S1024x1024 .f32)

/-- A load of what stores left is a load of their canonical contents. -/
theorem readCov_ld {sp : Space} {s : Shape} {e : EltTy} (v : View sig .tc sp s e) (L : List (View.Piece (Elt Ideal) s e)) (r : Rect s) :
    v.readCov L r.toLoadRect = View.ld (View.canon L) r := by
  rw [View.readCov_eq_canon']

/-- The lower half, read after the upper half was stored over a whole store, is the whole store's. -/
theorem late_half (z : Vec Ideal S1024x1024 .f32) (w : Vec Ideal S512x1024 .f32) (r : Fin 512) (c : Fin 1024) :
    View.ld (View.canon (Val := Elt Ideal) (s := S1024x1024) (e := .f32)
      [⟨Rect.unit (s := S1024x1024) ![0, 0] ![512, 1024] inb_S1024x1024_S512x1024_0_0, w⟩,
       ⟨Rect.unit (s := S1024x1024) ![0, 0] ![1024, 1024] inb_S1024x1024_S1024x1024_0_0, z⟩])
      (Rect.unit (s := S1024x1024) ![512, 0] ![512, 1024] inb_S1024x1024_S512x1024_512_0) (ix2 r c) = z (ix2 ⟨512 + r.val, by omega⟩ c) := by
  refine (ld_at _ 512 inb_S1024x1024_S512x1024_512_0 r c (by omega)).trans ?_
  have hn : (ix2 ⟨512 + r.val, by omega⟩ c : S1024x1024.Idx) ∉ (Rect.unit (s := S1024x1024) ![0, 0] ![512, 1024] inb_S1024x1024_S512x1024_0_0).set := fun hm => by
    have := (Rect.mem_set_unit.mp hm 0).2
    change 512 + r.val < 0 + 512 at this
    omega
  refine (View.canon_cons_of_not_mem (Val := Elt Ideal) ⟨Rect.unit (s := S1024x1024) ![0, 0] ![512, 1024] inb_S1024x1024_S512x1024_0_0, w⟩
    [⟨Rect.unit (s := S1024x1024) ![0, 0] ![1024, 1024] inb_S1024x1024_S1024x1024_0_0, z⟩] hn).trans ?_
  rw [canon_whole]

/-- A first column block stores the block's rows with their halos. -/
theorem xb_A (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = halo x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg21.read_unread, readCov_ld, pay14_eq, pay15_eq, pay21_eq, pay22_eq, ld_whole, canon_whole, halo_canon, hid_canon, pay2_eq, pay6_eq]

/-- A first column block's accumulator starts from zero. -/
theorem acc_A (hc0 : cond0_0 i) (hc1 : ¬cond0_1 i) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14
      = accNext (hid (k0_pay7 (F := Ideal) i) (k0_pay8 (F := Ideal) i) (halo x0 x1 x2) x3 x5) (hid (k0_pay7 (F := Ideal) i) (k0_pay8 (F := Ideal) i) (halo x0 x1 x2) x4 x6) x7 x8 x9 x10 x11 (fun _ => (0 : EReal)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg21.read_unread, readCov_ld, pay14_eq, pay15_eq, pay21_eq, pay22_eq, ld_whole, canon_whole, halo_canon, hid_canon, pay2_eq, pay6_eq]
  refine acc_canon _ _ _ _ _ _ _ _ _ _ _ (fun r c => ?_) (fun r c => ?_)
  · exact late_half _ _ r c
  · rfl

/-- A middle column block adds its contribution. -/
theorem acc_B (hc0 : ¬cond0_0 i) (hc1 : ¬cond0_1 i) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs3
      = accNext (hid (k0_pay7 (F := Ideal) i) (k0_pay8 (F := Ideal) i) xs0 x3 x5) (hid (k0_pay7 (F := Ideal) i) (k0_pay8 (F := Ideal) i) xs0 x4 x6) x7 x8 x9 x10 x11 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg21.read_unread, readCov_ld, pay14_eq, pay15_eq, pay21_eq, pay22_eq, ld_whole, canon_whole, halo_canon, hid_canon, pay2_eq, pay6_eq]
  refine acc_canon _ _ _ _ _ _ _ _ _ _ _ (fun r c => ?_) (fun r c => ?_)
  · exact ld_at xs3 512 inb_S1024x1024_S512x1024_512_0 r c (by omega)
  · exact (ld_at xs3 0 inb_S1024x1024_S512x1024_0_0 r c (by omega)).trans (congrArg xs3 (congrArg (fun z => ix2 z c) (Fin.ext (Nat.zero_add _))))

/-- A last column block adds its contribution. -/
theorem acc_C (hc0 : ¬cond0_0 i) (hc1 : cond0_1 i) :
    sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs3
      = accNext (hid (k0_pay7 (F := Ideal) i) (k0_pay8 (F := Ideal) i) xs0 x3 x5) (hid (k0_pay7 (F := Ideal) i) (k0_pay8 (F := Ideal) i) xs0 x4 x6) x7 x8 x9 x10 x11 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs3)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg21.read_unread, readCov_ld, pay14_eq, pay15_eq, pay21_eq, pay22_eq, ld_whole, canon_whole, halo_canon, hid_canon, pay2_eq, pay6_eq]
  refine acc_canon _ _ _ _ _ _ _ _ _ _ _ (fun r c => ?_) (fun r c => ?_)
  · exact ld_at xs3 512 inb_S1024x1024_S512x1024_512_0 r c (by omega)
  · exact (ld_at xs3 0 inb_S1024x1024_S512x1024_0_0 r c (by omega)).trans (congrArg xs3 (congrArg (fun z => ix2 z c) (Fin.ext (Nat.zero_add _))))

/-- and then writes the normalised rows. -/
theorem out_C (hc0 : ¬cond0_0 i) (hc1 : cond0_1 i) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs3
      = lnOut x0 (accNext (hid (k0_pay7 (F := Ideal) i) (k0_pay8 (F := Ideal) i) xs0 x3 x5) (hid (k0_pay7 (F := Ideal) i) (k0_pay8 (F := Ideal) i) xs0 x4 x6) x7 x8 x9 x10 x11 xs3) x12 x13 x14 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs3)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg21.read_unread, readCov_ld, pay14_eq, pay15_eq, pay21_eq, pay22_eq, ld_whole, canon_whole, halo_canon, hid_canon, pay2_eq, pay6_eq]
  refine congrArg (fun q => lnOut x0 q x12 x13 x14) ?_
  refine acc_canon _ _ _ _ _ _ _ _ _ _ _ (fun r c => ?_) (fun r c => ?_)
  · exact ld_at xs3 512 inb_S1024x1024_S512x1024_512_0 r c (by omega)
  · exact (ld_at xs3 0 inb_S1024x1024_S512x1024_0_0 r c (by omega)).trans (congrArg xs3 (congrArg (fun z => ix2 z c) (Fin.ext (Nat.zero_add _))))

end Cert.FfnIdeal.Ffn
end
-- ==== Proof.Ffn.Windows.lean ====
/- Which part of the arguments each window's block holds at each grid point. -/
module

public import proofs.«01_k».proof.Proof.Gen.FfnIdeal.Frame
public import proofs.«01_k».proof.Proof.Shared.Arrays
public import Idealize.ShloMosaic.Lib.Pointwise
public import Idealize.ShloMosaic.Lib.Tactic

@[expose] public section

set_option maxRecDepth 16384

noncomputable section

namespace Cert.FfnIdeal.Ffn

open Cert.FfnIdeal Cert.FfnIdeal.Gen Cert.Shared Idealize.ShloMosaic Idealize.ShloMosaic.TcCoe

variable (m : (ℓ : Loc nD τ sig) → Buf (Elt Ideal) ℓ) (c : Dev nD)

/-- The arguments as launched. -/
abbrev aX : S16384x1024.Idx → EReal := m ((c : Thread nD τ).loc main_arg0)
abbrev aW : S1024x5632.Idx → EReal := m ((c : Thread nD τ).loc main_arg1)
abbrev aB : S5632.Idx → EReal := m ((c : Thread nD τ).loc main_arg2)
abbrev aCW : S3x5632.Idx → EReal := m ((c : Thread nD τ).loc main_arg3)
abbrev aCB : S5632.Idx → EReal := m ((c : Thread nD τ).loc main_arg4)
abbrev aWO : S2816x1024.Idx → EReal := m ((c : Thread nD τ).loc main_arg5)
abbrev aBO : S1024.Idx → EReal := m ((c : Thread nD τ).loc main_arg6)
abbrev aG : S1024.Idx → EReal := m ((c : Thread nD τ).loc main_arg7)
abbrev aE : S1024.Idx → EReal := m ((c : Thread nD τ).loc main_arg8)

/-! ## The arrays the host operations leave -/

theorem v0_at (r : Fin 1024) (n : Fin 5632) : (V m c main_v0 : S1024x5632.Idx → EReal) (ix2 r n) = aW m c (ix2 r n) := by
  have h : V m c main_v0 = (truncf (F := Ideal) (s := S1024x5632) (φ := .f32) .bf16 (m ((c : Thread nD τ).loc main_arg1)) bitsLt_bf16_f32) := by
    show StableHlo.after hostOps0 _ (Proc.devRef .tc main_v0) = _
    after_results
  rw [h]; pointwise []
theorem v1_at (n : Fin 5632) : (V m c main_v1 : S1x5632.Idx → EReal) (ix2 0 n) = aB m c (ix1 n) := by
  have h : V m c main_v1 = (broadcastInDim S1x5632 ![1] bcast_S5632_S1x5632_1 (m ((c : Thread nD τ).loc main_arg2) : Vec Ideal S5632 .f32) : Vec Ideal S1x5632 .f32) := by
    show StableHlo.after hostOps0 _ (Proc.devRef .tc main_v1) = _
    after_results
  rw [h]; pointwise []
theorem v2_at (n : Fin 5632) : (V m c main_v2 : S1x5632.Idx → EReal) (ix2 0 n) = aCB m c (ix1 n) := by
  have h : V m c main_v2 = (broadcastInDim S1x5632 ![1] bcast_S5632_S1x5632_1 (m ((c : Thread nD τ).loc main_arg4) : Vec Ideal S5632 .f32) : Vec Ideal S1x5632 .f32) := by
    show StableHlo.after hostOps0 _ (Proc.devRef .tc main_v2) = _
    after_results
  rw [h]; pointwise []
theorem v3_at (r : Fin 2816) (n : Fin 1024) : (V m c main_v3 : S2816x1024.Idx → EReal) (ix2 r n) = aWO m c (ix2 r n) := by
  have h : V m c main_v3 = (truncf (F := Ideal) (s := S2816x1024) (φ := .f32) .bf16 (m ((c : Thread nD τ).loc main_arg5)) bitsLt_bf16_f32) := by
    show StableHlo.after hostOps0 _ (Proc.devRef .tc main_v3) = _
    after_results
  rw [h]; pointwise []
theorem v4_at (n : Fin 1024) : (V m c main_v4 : S1x1024.Idx → EReal) (ix2 0 n) = aBO m c (ix1 n) := by
  have h : V m c main_v4 = (broadcastInDim S1x1024 ![1] bcast_S1024_S1x1024_1 (m ((c : Thread nD τ).loc main_arg6) : Vec Ideal S1024 .f32) : Vec Ideal S1x1024 .f32) := by
    show StableHlo.after hostOps0 _ (Proc.devRef .tc main_v4) = _
    after_results
  rw [h]; pointwise []
theorem v5_at (n : Fin 1024) : (V m c main_v5 : S1x1024.Idx → EReal) (ix2 0 n) = aG m c (ix1 n) := by
  have h : V m c main_v5 = (broadcastInDim S1x1024 ![1] bcast_S1024_S1x1024_1 (m ((c : Thread nD τ).loc main_arg7) : Vec Ideal S1024 .f32) : Vec Ideal S1x1024 .f32) := by
    show StableHlo.after hostOps0 _ (Proc.devRef .tc main_v5) = _
    after_results
  rw [h]; pointwise []
theorem v6_at (n : Fin 1024) : (V m c main_v6 : S1x1024.Idx → EReal) (ix2 0 n) = aE m c (ix1 n) := by
  have h : V m c main_v6 = (broadcastInDim S1x1024 ![1] bcast_S1024_S1x1024_1 (m ((c : Thread nD τ).loc main_arg8) : Vec Ideal S1024 .f32) : Vec Ideal S1x1024 .f32) := by
    show StableHlo.after hostOps0 _ (Proc.devRef .tc main_v6) = _
    after_results
  rw [h]; pointwise []

/-! ## The blocks -/

/-- The row blocks' index maps over the grid: point `t` is row block `t / 11`, column block `t % 11`. -/
theorem idx_rows : ∀ t : Fin cfg0.N,
    win0_0.index t (0 : Fin 2) = t.val / 11 ∧ win0_0.index t (1 : Fin 2) = 0
    ∧ win0_1.index t (0 : Fin 2) = 64 * (t.val / 11) - 1 ∧ win0_1.index t (1 : Fin 2) = 0
    ∧ win0_2.index t (0 : Fin 2) = min (64 * (t.val / 11 + 1)) 1023 ∧ win0_2.index t (1 : Fin 2) = 0
    ∧ win0_15.index t (0 : Fin 2) = t.val / 11 ∧ win0_15.index t (1 : Fin 2) = 0 :=
  (by decide +kernel : ∀ t : Fin grid0.N, _)

/-- The column blocks' index maps over the grid. -/
theorem idx_cols : ∀ t : Fin cfg0.N,
    win0_3.index t (0 : Fin 2) = 0 ∧ win0_3.index t (1 : Fin 2) = t.val % 11
    ∧ win0_4.index t (0 : Fin 2) = 0 ∧ win0_4.index t (1 : Fin 2) = 11 + t.val % 11
    ∧ win0_5.index t (0 : Fin 2) = 0 ∧ win0_5.index t (1 : Fin 2) = t.val % 11
    ∧ win0_6.index t (0 : Fin 2) = 0 ∧ win0_6.index t (1 : Fin 2) = 11 + t.val % 11
    ∧ win0_7.index t (0 : Fin 2) = 0 ∧ win0_7.index t (1 : Fin 2) = t.val % 11
    ∧ win0_8.index t (0 : Fin 2) = 0 ∧ win0_8.index t (1 : Fin 2) = 11 + t.val % 11
    ∧ win0_9.index t (0 : Fin 2) = 0 ∧ win0_9.index t (1 : Fin 2) = t.val % 11
    ∧ win0_10.index t (0 : Fin 2) = 0 ∧ win0_10.index t (1 : Fin 2) = 11 + t.val % 11
    ∧ win0_11.index t (0 : Fin 2) = t.val % 11 ∧ win0_11.index t (1 : Fin 2) = 0 :=
  (by decide +kernel : ∀ t : Fin grid0.N, _)

/-- The row vectors' windows never move. -/
theorem idx_vecs : ∀ t : Fin cfg0.N,
    win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

theorem coord0 : ∀ t : Fin cfg0.N, (grid0.coords t 0).val = t.val / 11 :=
  (by decide +kernel : ∀ t : Fin grid0.N, (grid0.coords t 0).val = t.val / 11)

theorem b0_at (t : Fin cfg0.N) (r k : Fin 1024) (R : Fin 16384) (hR : R.val = 1024 * (t.val / 11) + r.val) :
    (iblk m c 0 t : S1024x1024.Idx → EReal) (ix2 r k) = aX m c (ix2 R k) := by
  obtain ⟨e0, e1, -⟩ := idx_rows t
  refine (congrFun (V_main_arg0 m c) _).trans (congrArg (aX m c) (idx_eq _ _ _ ?_ ?_))
  · show win0_0.index t (0 : Fin 2) * 1024 + 1 * r.val = R.val; omega
  · show win0_0.index t (1 : Fin 2) * 1024 + 1 * k.val = k.val; omega

theorem b1_at (t : Fin cfg0.N) (r : Fin 16) (k : Fin 1024) (R : Fin 16384) (hR : R.val = 16 * (64 * (t.val / 11) - 1) + r.val) :
    (iblk m c 1 t : S16x1024.Idx → EReal) (ix2 r k) = aX m c (ix2 R k) := by
  obtain ⟨-, -, e0, e1, -⟩ := idx_rows t
  refine (congrFun (V_main_arg0 m c) _).trans (congrArg (aX m c) (idx_eq _ _ _ ?_ ?_))
  · show win0_1.index t (0 : Fin 2) * 16 + 1 * r.val = R.val; omega
  · show win0_1.index t (1 : Fin 2) * 1024 + 1 * k.val = k.val; omega

theorem b2_at (t : Fin cfg0.N) (r : Fin 16) (k : Fin 1024) (R : Fin 16384) (hR : R.val = 16 * min (64 * (t.val / 11 + 1)) 1023 + r.val) :
    (iblk m c 2 t : S16x1024.Idx → EReal) (ix2 r k) = aX m c (ix2 R k) := by
  obtain ⟨-, -, -, -, e0, e1, -⟩ := idx_rows t
  refine (congrFun (V_main_arg0 m c) _).trans (congrArg (aX m c) (idx_eq _ _ _ ?_ ?_))
  · show win0_2.index t (0 : Fin 2) * 16 + 1 * r.val = R.val; rw [e0, hR]; omega
  · show win0_2.index t (1 : Fin 2) * 1024 + 1 * k.val = k.val; omega

theorem b3_at (t : Fin cfg0.N) (k : Fin 1024) (n : Fin 256) (N : Fin 5632) (hN : N.val = 256 * (t.val % 11) + n.val) :
    (iblk m c 3 t : S1024x256.Idx → EReal) (ix2 k n) = aW m c (ix2 k N) := by
  obtain ⟨e0, e1, -⟩ := idx_cols t
  refine Eq.trans (congrArg (V m c main_v0 : S1024x5632.Idx → EReal) (idx_eq _ k N ?_ ?_)) (v0_at m c k N)
  · show win0_3.index t (0 : Fin 2) * 1024 + 1 * k.val = k.val; omega
  · show win0_3.index t (1 : Fin 2) * 256 + 1 * n.val = N.val; omega

theorem b4_at (t : Fin cfg0.N) (k : Fin 1024) (n : Fin 256) (N : Fin 5632) (hN : N.val = 2816 + 256 * (t.val % 11) + n.val) :
    (iblk m c 4 t : S1024x256.Idx → EReal) (ix2 k n) = aW m c (ix2 k N) := by
  obtain ⟨-, -, e0, e1, -⟩ := idx_cols t
  refine Eq.trans (congrArg (V m c main_v0 : S1024x5632.Idx → EReal) (idx_eq _ k N ?_ ?_)) (v0_at m c k N)
  · show win0_4.index t (0 : Fin 2) * 1024 + 1 * k.val = k.val; omega
  · show win0_4.index t (1 : Fin 2) * 256 + 1 * n.val = N.val; omega

theorem b5_at (t : Fin cfg0.N) (n : Fin 256) (N : Fin 5632) (hN : N.val = 256 * (t.val % 11) + n.val) :
    (iblk m c 5 t : S1x256.Idx → EReal) (ix2 0 n) = aB m c (ix1 N) := by
  obtain ⟨-, -, -, -, e0, e1, -⟩ := idx_cols t
  refine Eq.trans (congrArg (V m c main_v1 : S1x5632.Idx → EReal) (idx_eq _ 0 N ?_ ?_)) (v1_at m c N)
  · show win0_5.index t (0 : Fin 2) * 1 + 1 * 0 = 0; omega
  · show win0_5.index t (1 : Fin 2) * 256 + 1 * n.val = N.val; omega

theorem b6_at (t : Fin cfg0.N) (n : Fin 256) (N : Fin 5632) (hN : N.val = 2816 + 256 * (t.val % 11) + n.val) :
    (iblk m c 6 t : S1x256.Idx → EReal) (ix2 0 n) = aB m c (ix1 N) := by
  obtain ⟨-, -, -, -, -, -, e0, e1, -⟩ := idx_cols t
  refine Eq.trans (congrArg (V m c main_v1 : S1x5632.Idx → EReal) (idx_eq _ 0 N ?_ ?_)) (v1_at m c N)
  · show win0_6.index t (0 : Fin 2) * 1 + 1 * 0 = 0; omega
  · show win0_6.index t (1 : Fin 2) * 256 + 1 * n.val = N.val; omega

theorem b7_at (t : Fin cfg0.N) (p : Fin 3) (n : Fin 256) (N : Fin 5632) (hN : N.val = 256 * (t.val % 11) + n.val) :
    (iblk m c 7 t : S3x256.Idx → EReal) (ix2 p n) = aCW m c (ix2 p N) := by
  obtain ⟨-, -, -, -, -, -, -, -, e0, e1, -⟩ := idx_cols t
  refine (congrFun (V_main_arg3 m c) _).trans (congrArg (aCW m c) (idx_eq _ p N ?_ ?_))
  · show win0_7.index t (0 : Fin 2) * 3 + 1 * p.val = p.val; omega
  · show win0_7.index t (1 : Fin 2) * 256 + 1 * n.val = N.val; omega

theorem b8_at (t : Fin cfg0.N) (p : Fin 3) (n : Fin 256) (N : Fin 5632) (hN : N.val = 2816 + 256 * (t.val % 11) + n.val) :
    (iblk m c 8 t : S3x256.Idx → EReal) (ix2 p n) = aCW m c (ix2 p N) := by
  obtain ⟨-, -, -, -, -, -, -, -, -, -, e0, e1, -⟩ := idx_cols t
  refine (congrFun (V_main_arg3 m c) _).trans (congrArg (aCW m c) (idx_eq _ p N ?_ ?_))
  · show win0_8.index t (0 : Fin 2) * 3 + 1 * p.val = p.val; omega
  · show win0_8.index t (1 : Fin 2) * 256 + 1 * n.val = N.val; omega

theorem b9_at (t : Fin cfg0.N) (n : Fin 256) (N : Fin 5632) (hN : N.val = 256 * (t.val % 11) + n.val) :
    (iblk m c 9 t : S1x256.Idx → EReal) (ix2 0 n) = aCB m c (ix1 N) := by
  obtain ⟨-, -, -, -, -, -, -, -, -, -, -, -, e0, e1, -⟩ := idx_cols t
  refine Eq.trans (congrArg (V m c main_v2 : S1x5632.Idx → EReal) (idx_eq _ 0 N ?_ ?_)) (v2_at m c N)
  · show win0_9.index t (0 : Fin 2) * 1 + 1 * 0 = 0; omega
  · show win0_9.index t (1 : Fin 2) * 256 + 1 * n.val = N.val; omega

theorem b10_at (t : Fin cfg0.N) (n : Fin 256) (N : Fin 5632) (hN : N.val = 2816 + 256 * (t.val % 11) + n.val) :
    (iblk m c 10 t : S1x256.Idx → EReal) (ix2 0 n) = aCB m c (ix1 N) := by
  obtain ⟨-, -, -, -, -, -, -, -, -, -, -, -, -, -, e0, e1, -⟩ := idx_cols t
  refine Eq.trans (congrArg (V m c main_v2 : S1x5632.Idx → EReal) (idx_eq _ 0 N ?_ ?_)) (v2_at m c N)
  · show win0_10.index t (0 : Fin 2) * 1 + 1 * 0 = 0; omega
  · show win0_10.index t (1 : Fin 2) * 256 + 1 * n.val = N.val; omega

theorem b11_at (t : Fin cfg0.N) (n : Fin 256) (k : Fin 1024) (N : Fin 2816) (hN : N.val = 256 * (t.val % 11) + n.val) :
    (iblk m c 11 t : S256x1024.Idx → EReal) (ix2 n k) = aWO m c (ix2 N k) := by
  obtain ⟨-, -, -, -, -, -, -, -, -, -, -, -, -, -, -, -, e0, e1⟩ := idx_cols t
  refine Eq.trans (congrArg (V m c main_v3 : S2816x1024.Idx → EReal) (idx_eq _ N k ?_ ?_)) (v3_at m c N k)
  · show win0_11.index t (0 : Fin 2) * 256 + 1 * n.val = N.val; omega
  · show win0_11.index t (1 : Fin 2) * 1024 + 1 * k.val = k.val; omega

theorem b12_at (t : Fin cfg0.N) (k : Fin 1024) : (iblk m c 12 t : S1x1024.Idx → EReal) (ix2 0 k) = aBO m c (ix1 k) := by
  obtain ⟨e0, e1, -⟩ := idx_vecs t
  refine Eq.trans (congrArg (V m c main_v4 : S1x1024.Idx → EReal) (idx_eq _ 0 k ?_ ?_)) (v4_at m c k)
  · show win0_12.index t (0 : Fin 2) * 1 + 1 * 0 = 0; omega
  · show win0_12.index t (1 : Fin 2) * 1024 + 1 * k.val = k.val; omega

theorem b13_at (t : Fin cfg0.N) (k : Fin 1024) : (iblk m c 13 t : S1x1024.Idx → EReal) (ix2 0 k) = aG m c (ix1 k) := by
  obtain ⟨-, -, e0, e1, -⟩ := idx_vecs t
  refine Eq.trans (congrArg (V m c main_v5 : S1x1024.Idx → EReal) (idx_eq _ 0 k ?_ ?_)) (v5_at m c k)
  · show win0_13.index t (0 : Fin 2) * 1 + 1 * 0 = 0; omega
  · show win0_13.index t (1 : Fin 2) * 1024 + 1 * k.val = k.val; omega

theorem b14_at (t : Fin cfg0.N) (k : Fin 1024) : (iblk m c 14 t : S1x1024.Idx → EReal) (ix2 0 k) = aE m c (ix1 k) := by
  obtain ⟨-, -, -, -, e0, e1⟩ := idx_vecs t
  refine Eq.trans (congrArg (V m c main_v6 : S1x1024.Idx → EReal) (idx_eq _ 0 k ?_ ?_)) (v6_at m c k)
  · show win0_14.index t (0 : Fin 2) * 1 + 1 * 0 = 0; omega
  · show win0_14.index t (1 : Fin 2) * 1024 + 1 * k.val = k.val; omega

end Cert.FfnIdeal.Ffn
end
-- ==== Proof.Ffn.Spec.lean ====
/- The ConvFFN sublayer as a function of its arguments, element by element: what both programs are shown to compute. -/
module

public import Idealize.ShloMosaic.Lib.Pointwise

@[expose] public section

noncomputable section

namespace FfnSpec

open Idealize.ShloMosaic

variable (x : (⟨2, ![16384, 1024]⟩ : Shape).Idx → EReal) (w : (⟨2, ![1024, 5632]⟩ : Shape).Idx → EReal)
  (b : (⟨1, ![5632]⟩ : Shape).Idx → EReal) (cw : (⟨2, ![3, 5632]⟩ : Shape).Idx → EReal) (cb : (⟨1, ![5632]⟩ : Shape).Idx → EReal)
  (wo : (⟨2, ![2816, 1024]⟩ : Shape).Idx → EReal) (bo g e : (⟨1, ![1024]⟩ : Shape).Idx → EReal)
  (gel : EReal → EReal) (al : EReal)

/-- The up projection of row `R` at feature `N`. -/
def up (R : Fin 16384) (N : Fin 5632) : EReal := ∑ k : Fin 1024, x (ix2 R k) * w (ix2 k N) + b (ix1 N)

/-- The row before, or zero at the start of a sequence of 4096 rows. -/
def before (R : Fin 16384) (N : Fin 5632) : EReal :=
  if h : R.val % 4096 = 0 then 0 else up x w b ⟨R.val - 1, by omega⟩ N

/-- The row after, or zero at the end of a sequence. -/
def next (R : Fin 16384) (N : Fin 5632) : EReal :=
  if h : R.val % 4096 = 4095 then 0 else up x w b ⟨R.val + 1, by omega⟩ N

/-- The depthwise convolution over the rows with three taps. -/
def conv (R : Fin 16384) (N : Fin 5632) : EReal :=
  before x w b R N * cw (ix2 0 N) + up x w b R N * cw (ix2 1 N) + next x w b R N * cw (ix2 2 N) + cb (ix1 N)

/-- One term of the down projection of the gated rows. -/
def term (R : Fin 16384) (k : Fin 1024) (N : Fin 2816) : EReal :=
  conv x w b cw cb R ⟨N.val, by omega⟩ * gel (conv x w b cw cb R ⟨2816 + N.val, by omega⟩) * wo (ix2 N k)

/-- The residual sum before the norm. -/
def resid (R : Fin 16384) (k : Fin 1024) : EReal :=
  al * x (ix2 R k) + ∑ N : Fin 2816, term x w b cw cb wo gel R k N + bo (ix1 k)

/-- The norm of a row `z`, scaled and shifted. -/
def norm (z : Fin 1024 → EReal) (k : Fin 1024) : EReal :=
  let mu : EReal := Ideal.div (∑ n, z n) (Ideal.ofBits .f32 0x44800000#32)
  (z k - mu) * Ideal.rsqrt (Ideal.div (∑ n, (z n - mu) * (z n - mu)) (Ideal.ofBits .f32 0x44800000#32) + Ideal.ofBits .f32 0x3727C5AC#32)
    * g (ix1 k) + e (ix1 k)

/-- The sublayer's result. -/
def out (R : Fin 16384) (k : Fin 1024) : EReal := norm g e (resid x w b cw cb wo bo gel al R) k

/-- A function of the numbers below `2816`, extended by zero. -/
def ext (f : Fin 2816 → EReal) (n : ℕ) : EReal := if h : n < 2816 then f ⟨n, h⟩ else 0

theorem ext_of (f : Fin 2816 → EReal) (n : ℕ) (h : n < 2816) : ext f n = f ⟨n, h⟩ := dif_pos h

/-- A sum over consecutive blocks is the sum over their union. -/
theorem sum_blocks (f : ℕ → EReal) (q a : ℕ) :
    ∑ j ∈ Finset.range a, ∑ n ∈ Finset.range q, f (q * j + n) = ∑ n ∈ Finset.range (q * a), f n := by
  induction a with
  | zero => simp
  | succ a ih => rw [Finset.sum_range_succ, ih, Nat.mul_succ, Finset.sum_range_add]

/-- The sum over eleven blocks of 256 is the whole sum. -/
theorem sum_ext (f : Fin 2816 → EReal) :
    ∑ j ∈ Finset.range 11, ∑ n : Fin 256, ext f (256 * j + n.val) = ∑ N : Fin 2816, f N := by
  have h : ∀ j, ∑ n : Fin 256, ext f (256 * j + n.val) = ∑ n ∈ Finset.range 256, ext f (256 * j + n) := fun j =>
    (Finset.sum_range (fun n => ext f (256 * j + n))).symm
  rw [Finset.sum_congr rfl fun j _ => h j, sum_blocks (ext f) 256 11, Finset.sum_range]
  exact Finset.sum_congr rfl fun N _ => ext_of f N.val N.isLt

end FfnSpec
end
-- ==== Proof.Ffn.Points.lean ====
/- The accumulator and the output block of the ConvFFN kernel at each grid point. -/
module

public import proofs.«01_k».proof.Proof.Ffn.Block
public import proofs.«01_k».proof.Proof.Ffn.Windows
public import proofs.«01_k».proof.Proof.Ffn.Spec

@[expose] public section

set_option maxRecDepth 16384

noncomputable section

namespace Cert.FfnIdeal.Ffn

open Cert.FfnIdeal Cert.FfnIdeal.Gen Idealize.ShloMosaic Idealize.ShloMosaic.TcCoe

/-- The convolution over a block's halo array is the convolution over all rows: the factor zero at the ends of a sequence is the zero row there. -/
theorem cnv_eq (x : S16384x1024.Idx → EReal) (w : S1024x5632.Idx → EReal) (b : S5632.Idx → EReal) (cw : S3x5632.Idx → EReal) (cb : S5632.Idx → EReal)
    (i : ℕ) (hi : i < 16) (f0 f1 : EReal) (h0 : f0 = if i % 4 = 0 then 0 else 1) (h1 : f1 = if i % 4 = 3 then 0 else 1)
    (X0 : Vec Ideal S1024x1024 .f32) (X1 X2 : Vec Ideal S16x1024 .f32) (W : Vec Ideal S1024x256 .bf16) (B : Vec Ideal S1x256 .f32)
    (CW : Vec Ideal S3x256 .f32) (CB : Vec Ideal S1x256 .f32)
    (hX0 : ∀ (r k : Fin 1024) (R : Fin 16384), R.val = 1024 * i + r.val → X0 (ix2 r k) = x (ix2 R k))
    (hX1 : ∀ (r : Fin 16) (k : Fin 1024) (R : Fin 16384), R.val = 16 * (64 * i - 1) + r.val → X1 (ix2 r k) = x (ix2 R k))
    (hX2 : ∀ (r : Fin 16) (k : Fin 1024) (R : Fin 16384), R.val = 16 * min (64 * (i + 1)) 1023 + r.val → X2 (ix2 r k) = x (ix2 R k))
    (n : Fin 256) (N : Fin 5632)
    (hW : ∀ k : Fin 1024, W (ix2 k n) = w (ix2 k N)) (hB : B (ix2 0 n) = b (ix1 N)) (hCW : ∀ p : Fin 3, CW (ix2 p n) = cw (ix2 p N)) (hCB : CB (ix2 0 n) = cb (ix1 N))
    (r : Fin 1024) (R : Fin 16384) (hR : R.val = 1024 * i + r.val) :
    cnv (hid f0 f1 (halo X0 X1 X2) W B) CW CB r n = FfnSpec.conv x w b cw cb R N := by
  have key : ∀ (s : Fin 1056) (Q : Fin 16384), (∀ k, halo X0 X1 X2 (ix2 s k) = x (ix2 Q k)) →
      hid f0 f1 (halo X0 X1 X2) W B (ix2 s n) = FfnSpec.up x w b Q N * edge f0 f1 s.val := fun s Q hq => by
    rw [hid_at, hB, Finset.sum_congr rfl fun k _ => congrArg₂ (· * ·) (hq k) (hW k)]
    rfl
  have mid : ∀ (s : Fin 1056) (Q : Fin 16384), 16 ≤ s.val → s.val < 1040 → Q.val + 16 = 1024 * i + s.val →
      hid f0 f1 (halo X0 X1 X2) W B (ix2 s n) = FfnSpec.up x w b Q N := fun s Q ha hb hq => by
    rw [key s Q fun k => ?_]
    · unfold edge; rw [if_neg (by omega), if_pos hb, mul_one]
    · show (if h : s.val < 16 then _ else if h' : s.val < 1040 then _ else _) = _
      rw [dif_neg (by omega), dif_pos hb]
      exact hX0 _ _ _ (by show Q.val = 1024 * i + (s.val - 16); omega)
  have e1 : hid f0 f1 (halo X0 X1 X2) W B (ix2 ⟨r.val + 16, by omega⟩ n) = FfnSpec.up x w b R N :=
    mid _ _ (by show 16 ≤ r.val + 16; omega) (by show r.val + 16 < 1040; omega) (by show R.val + 16 = 1024 * i + (r.val + 16); omega)
  have e0 : hid f0 f1 (halo X0 X1 X2) W B (ix2 ⟨r.val + 15, by omega⟩ n) = FfnSpec.before x w b R N := by
    unfold FfnSpec.before
    by_cases hr : r.val = 0
    · by_cases hz : i % 4 = 0
      · rw [dif_pos (by omega), hid_at, h0, if_pos hz]
        unfold edge; rw [if_pos (by show r.val + 15 < 16; omega), mul_zero]
      · rw [dif_neg (by omega), key _ ⟨R.val - 1, by omega⟩ fun k => ?_]
        · unfold edge; rw [if_pos (by show r.val + 15 < 16; omega), h0, if_neg hz, mul_one]
        · show (if h : r.val + 15 < 16 then _ else _) = _
          rw [dif_pos (by omega)]
          exact hX1 _ _ _ (by show R.val - 1 = 16 * (64 * i - 1) + (r.val + 15); omega)
    · rw [dif_neg (by omega)]
      exact mid _ _ (by show 16 ≤ r.val + 15; omega) (by show r.val + 15 < 1040; omega) (by show R.val - 1 + 16 = 1024 * i + (r.val + 15); omega)
  have e2 : hid f0 f1 (halo X0 X1 X2) W B (ix2 ⟨r.val + 17, by omega⟩ n) = FfnSpec.next x w b R N := by
    unfold FfnSpec.next
    by_cases hr : r.val = 1023
    · by_cases hz : i % 4 = 3
      · rw [dif_pos (by omega), hid_at, h1, if_pos hz]
        unfold edge; rw [if_neg (by show ¬ r.val + 17 < 16; omega), if_neg (by show ¬ r.val + 17 < 1040; omega), mul_zero]
      · rw [dif_neg (by omega), key _ ⟨R.val + 1, by omega⟩ fun k => ?_]
        · unfold edge; rw [if_neg (by show ¬ r.val + 17 < 16; omega), if_neg (by show ¬ r.val + 17 < 1040; omega), h1, if_neg hz, mul_one]
        · show (if h : r.val + 17 < 16 then _ else if h' : r.val + 17 < 1040 then _ else _) = _
          rw [dif_neg (by omega), dif_neg (by omega)]
          exact hX2 _ _ _ (by show R.val + 1 = 16 * min (64 * (i + 1)) 1023 + (r.val + 17 - 1040); omega)
    · rw [dif_neg (by omega)]
      exact mid _ _ (by show 16 ≤ r.val + 17; omega) (by show r.val + 17 < 1040; omega) (by show R.val + 1 + 16 = 1024 * i + (r.val + 17); omega)
  unfold cnv FfnSpec.conv
  rw [e0, e1, e2, hCW 0, hCW 1, hCW 2, hCB]

variable (m : (ℓ : Loc nD τ sig) → Buf (Elt Ideal) ℓ) (c : Dev nD)

/-- The rows a block and its halos hold at a point. -/
def xbOf (t : Fin cfg0.N) : Vec Ideal S1056x1024 .bf16 := halo (iblk m c 0 t) (iblk m c 1 t) (iblk m c 2 t)

/-- They are the same along the points of one row block. -/
theorem xbOf_congr (t t' : Fin cfg0.N) (h : t.val / 11 = t'.val / 11) : xbOf m c t = xbOf m c t' := by
  have hb : t.val < 176 := N_0 ▸ (show t.val < grid0.N from t.isLt)
  have e0 : (iblk m c 0 t : S1024x1024.Idx → EReal) = iblk m c 0 t' := funext fun y => by
    rw [eq_ix2 y]
    have hy : (y 0).val < 1024 := (y 0).isLt
    exact (b0_at m c t (y 0) (y 1) ⟨1024 * (t.val / 11) + (y 0).val, by omega⟩ rfl).trans (b0_at m c t' (y 0) (y 1) _ (by rw [← h])).symm
  have e1 : (iblk m c 1 t : S16x1024.Idx → EReal) = iblk m c 1 t' := funext fun y => by
    rw [eq_ix2 y]
    have hy : (y 0).val < 16 := (y 0).isLt
    exact (b1_at m c t (y 0) (y 1) ⟨16 * (64 * (t.val / 11) - 1) + (y 0).val, by omega⟩ rfl).trans (b1_at m c t' (y 0) (y 1) _ (by rw [← h])).symm
  have e2 : (iblk m c 2 t : S16x1024.Idx → EReal) = iblk m c 2 t' := funext fun y => by
    rw [eq_ix2 y]
    have hy : (y 0).val < 16 := (y 0).isLt
    exact (b2_at m c t (y 0) (y 1) ⟨16 * min (64 * (t.val / 11 + 1)) 1023 + (y 0).val, by omega⟩ rfl).trans (b2_at m c t' (y 0) (y 1) _ (by rw [← h])).symm
  unfold xbOf; rw [e0, e1, e2]

/-- What a point adds to the accumulator over what it found there. -/
def accStep (t : Fin cfg0.N) (acc : Vec Ideal S1024x1024 .f32) : Vec Ideal S1024x1024 .f32 :=
  accNext (hid (k0_pay7 (F := Ideal) (grid0.coords t)) (k0_pay8 (F := Ideal) (grid0.coords t)) (xbOf m c t) (iblk m c 3 t) (iblk m c 5 t))
    (hid (k0_pay7 (F := Ideal) (grid0.coords t)) (k0_pay8 (F := Ideal) (grid0.coords t)) (xbOf m c t) (iblk m c 4 t) (iblk m c 6 t))
    (iblk m c 7 t) (iblk m c 8 t) (iblk m c 9 t) (iblk m c 10 t) (iblk m c 11 t) acc

/-- The terms of the down projection at a row and a column, from the arguments as launched. -/
abbrev termOf (R : Fin 16384) (k : Fin 1024) : Fin 2816 → EReal :=
  FfnSpec.term (aX m c) (aW m c) (aB m c) (aCW m c) (aCB m c) (aWO m c) gelu R k

/-- A point adds its block of 256 terms. -/
theorem accStep_at (t : Fin cfg0.N) (acc : Vec Ideal S1024x1024 .f32) (r k : Fin 1024) (R : Fin 16384) (hR : R.val = 1024 * (t.val / 11) + r.val) :
    accStep m c t acc (ix2 r k) = acc (ix2 r k) + ∑ n : Fin 256, FfnSpec.ext (termOf m c R k) (256 * (t.val % 11) + n.val) := by
  have hb : t.val < 176 := N_0 ▸ (show t.val < grid0.N from t.isLt)
  have hi : t.val / 11 < 16 := by omega
  have hj : t.val % 11 < 11 := Nat.mod_lt _ (by omega)
  unfold accStep accNext
  refine congrArg (acc (ix2 r k) + ·) (Finset.sum_congr rfl fun n _ => ?_)
  have h7 : k0_pay7 (F := Ideal) (grid0.coords t) = if t.val / 11 % 4 = 0 then (0 : EReal) else 1 := by rw [pay7_eq, coord0]
  have h8 : k0_pay8 (F := Ideal) (grid0.coords t) = if t.val / 11 % 4 = 3 then (0 : EReal) else 1 := by rw [pay8_eq, coord0]
  have hn : 256 * (t.val % 11) + n.val < 2816 := by omega
  rw [FfnSpec.ext_of _ _ hn]
  unfold termOf FfnSpec.term
  refine congrArg₂ (· * ·) (congrArg₂ (· * ·) ?_ (congrArg gelu ?_)) ?_
  · exact cnv_eq (aX m c) (aW m c) (aB m c) (aCW m c) (aCB m c) (t.val / 11) hi _ _ h7 h8 _ _ _ _ _ _ _
      (b0_at m c t) (b1_at m c t) (b2_at m c t) n _ (fun k => b3_at m c t k n _ rfl) (b5_at m c t n _ rfl) (fun p => b7_at m c t p n _ rfl) (b9_at m c t n _ rfl) r R hR
  · exact cnv_eq (aX m c) (aW m c) (aB m c) (aCW m c) (aCB m c) (t.val / 11) hi _ _ h7 h8 _ _ _ _ _ _ _
      (b0_at m c t) (b1_at m c t) (b2_at m c t) n _ (fun k => b4_at m c t k n _ (Nat.add_assoc _ _ _).symm) (b6_at m c t n _ (Nat.add_assoc _ _ _).symm)
      (fun p => b8_at m c t p n _ (Nat.add_assoc _ _ _).symm) (b10_at m c t n _ (Nat.add_assoc _ _ _).symm) r R hR
  · exact b11_at m c t n k _ rfl

/-! ## One point over the point before -/

/-- The first point of a row block leaves the block's rows. -/
theorem rows_A (t : Fin cfg0.N) (h : t.val % 11 = 0) : (outsAt0 m c t.val t.isLt).2.1 = xbOf m c t := by
  rw [outsAt0_A m c t h (by omega)]
  dsimp only
  rw [xb_A]
  rfl

/-- It leaves its step over zero in the accumulator. -/
theorem acc_first (t : Fin cfg0.N) (h : t.val % 11 = 0) : (outsAt0 m c t.val t.isLt).2.2 = accStep m c t (fun _ => (0 : EReal)) := by
  rw [outsAt0_A m c t h (by omega)]
  dsimp only
  rw [acc_A]
  rfl

/-- A later point keeps the rows. -/
theorem rows_S (t : Fin cfg0.N) (h : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h h1]
    dsimp only
    unfold sout0_C_0
    rfl
  · rw [outsAt0_B m c t h h1]
    dsimp only
    unfold sout0_B_0
    rfl

/-- It adds its step to the accumulator. -/
theorem acc_S (t : Fin cfg0.N) (h : ¬t.val % 11 = 0)
    (hx : (outsAt0 m c (t.val - 1) (Nat.lt_of_le_of_lt (Nat.sub_le _ _) t.isLt)).2.1 = xbOf m c t) :
    (outsAt0 m c t.val t.isLt).2.2 = accStep m c t (outsAt0 m c (t.val - 1) (Nat.lt_of_le_of_lt (Nat.sub_le _ _) t.isLt)).2.2 := by
  by_cases h1 : t.val % 11 = 10
  · rw [outsAt0_C m c t h h1]
    dsimp only
    rw [acc_C, hx]
    rfl
  · rw [outsAt0_B m c t h h1]
    dsimp only
    rw [acc_B, hx]
    rfl

/-- The last point's output block: the norm over the finished accumulator. -/
theorem point_out (t : Fin cfg0.N) (h1 : t.val % 11 = 10)
    (hx : (outsAt0 m c (t.val - 1) (Nat.lt_of_le_of_lt (Nat.sub_le _ _) t.isLt)).2.1 = xbOf m c t) :
    (outsAt0 m c t.val t.isLt).1
      = lnOut (iblk m c 0 t) (outsAt0 m c t.val t.isLt).2.2 (iblk m c 12 t) (iblk m c 13 t) (iblk m c 14 t) := by
  rw [acc_S m c t (by omega) hx, outsAt0_C m c t (by omega) h1]
  dsimp only
  rw [out_C, hx]
  rfl

/-- The norm of a block at an index, from the row it is taken over. -/
theorem lnOut_at (x a : Vec Ideal S1024x1024 .f32) (b g e : Vec Ideal S1x1024 .f32) (r k : Fin 1024) (G E : S1024.Idx → EReal) (z : Fin 1024 → EReal)
    (hz : ∀ n, Named.named (F := Ideal) κ "alpha" (φ := .f32) 0x3FD744FD#32 * x (ix2 r n) + a (ix2 r n) + b (ix2 0 n) = z n)
    (hg : g (ix2 0 k) = G (ix1 k)) (he : e (ix2 0 k) = E (ix1 k)) :
    lnOut x a b g e (ix2 r k) = FfnSpec.norm G E z k := by
  obtain rfl : (fun n => Named.named (F := Ideal) κ "alpha" (φ := .f32) 0x3FD744FD#32 * x (ix2 r n) + a (ix2 r n) + b (ix2 0 n)) = z := funext hz
  unfold FfnSpec.norm
  rw [← hg, ← he]
  rfl

/-! ## Along a row block -/

/-- After point `t` the accumulator holds the terms of the blocks up to `t`'s, and the rows are the block's. -/
theorem inv (t : Fin cfg0.N) :
    (outsAt0 m c t.val t.isLt).2.1 = xbOf m c t
    ∧ ∀ (r k : Fin 1024) (R : Fin 16384), R.val = 1024 * (t.val / 11) + r.val →
      (outsAt0 m c t.val t.isLt).2.2 (ix2 r k) = ∑ j ∈ Finset.range (t.val % 11 + 1), ∑ n : Fin 256, FfnSpec.ext (termOf m c R k) (256 * j + n.val) := by
  obtain ⟨a, ha⟩ := t
  induction a with
  | zero =>
    have q := acc_first m c ⟨0, ha⟩ rfl
    refine ⟨rows_A m c ⟨0, ha⟩ rfl, fun r k R hR => ?_⟩
    rw [q, accStep_at m c _ _ r k R hR, zero_add]
    exact (Finset.sum_range_one (fun j => ∑ n : Fin 256, FfnSpec.ext (termOf m c R k) (256 * j + n.val))).symm
  | succ a ih =>
    by_cases h : (a + 1) % 11 = 0
    · have q := acc_first m c ⟨a + 1, ha⟩ h
      refine ⟨rows_A m c ⟨a + 1, ha⟩ h, fun r k R hR => ?_⟩
      rw [q, accStep_at m c _ _ r k R hR, zero_add]
      show ∑ n : Fin 256, FfnSpec.ext (termOf m c R k) (256 * ((a + 1) % 11) + n.val) = ∑ j ∈ Finset.range ((a + 1) % 11 + 1), ∑ n : Fin 256, FfnSpec.ext (termOf m c R k) (256 * j + n.val)
      rw [h]
      exact (Finset.sum_range_one (fun j => ∑ n : Fin 256, FfnSpec.ext (termOf m c R k) (256 * j + n.val))).symm
    · obtain ⟨p', q'⟩ := ih (by omega)
      have hq : a / 11 = (a + 1) / 11 := by omega
      have hx := p'.trans (xbOf_congr m c ⟨a, Nat.lt_of_succ_lt ha⟩ ⟨a + 1, ha⟩ hq)
      have q := acc_S m c ⟨a + 1, ha⟩ h hx
      refine ⟨(rows_S m c ⟨a + 1, ha⟩ h).trans hx, fun r k R hR => ?_⟩
      rw [q, accStep_at m c _ _ r k R hR]
      show (outsAt0 m c a _).2.2 (ix2 r k) + ∑ n : Fin 256, FfnSpec.ext (termOf m c R k) (256 * ((a + 1) % 11) + n.val) = ∑ j ∈ Finset.range ((a + 1) % 11 + 1), ∑ n : Fin 256, FfnSpec.ext (termOf m c R k) (256 * j + n.val)
      have hm : (a + 1) % 11 = a % 11 + 1 := by omega
      rw [q' r k R (by show R.val = 1024 * (a / 11) + r.val; rw [hq]; exact hR), hm, Finset.sum_range_succ _ (a % 11 + 1)]

/-- The sublayer's result from the arguments as launched. -/
abbrev outOf (R : Fin 16384) (k : Fin 1024) : EReal :=
  FfnSpec.out (aX m c) (aW m c) (aB m c) (aCW m c) (aCB m c) (aWO m c) (aBO m c) (aG m c) (aE m c) gelu
    (Named.named (F := Ideal) κ "alpha" (φ := .f32) 0x3FD744FD#32) R k

/-- A row block's last point writes the sublayer's rows. -/
theorem out_at (t : Fin cfg0.N) (h1 : t.val % 11 = 10) (r k : Fin 1024) (R : Fin 16384) (hR : R.val = 1024 * (t.val / 11) + r.val) :
    (outsAt0 m c t.val t.isLt).1 (ix2 r k) = outOf m c R k := by
  have hp : (outsAt0 m c (t.val - 1) (Nat.lt_of_le_of_lt (Nat.sub_le _ _) t.isLt)).2.1 = xbOf m c t :=
    ((inv m c ⟨t.val - 1, Nat.lt_of_le_of_lt (Nat.sub_le _ _) t.isLt⟩).1).trans (xbOf_congr m c _ _ (by show (t.val - 1) / 11 = t.val / 11; omega))
  rw [point_out m c t h1 hp]
  have hz : ∀ n : Fin 1024, Named.named (F := Ideal) κ "alpha" (φ := .f32) 0x3FD744FD#32 * (iblk m c 0 t : S1024x1024.Idx → EReal) (ix2 r n)
      + (outsAt0 m c t.val t.isLt).2.2 (ix2 r n) + (iblk m c 12 t : S1x1024.Idx → EReal) (ix2 0 n)
      = FfnSpec.resid (aX m c) (aW m c) (aB m c) (aCW m c) (aCB m c) (aWO m c) (aBO m c) gelu (Named.named (F := Ideal) κ "alpha" (φ := .f32) 0x3FD744FD#32) R n := fun n => by
    rw [b0_at m c t r n R hR, b12_at m c t n, (inv m c t).2 r n R hR, h1, FfnSpec.sum_ext]
    rfl
  exact lnOut_at _ _ _ _ _ r k (aG m c) (aE m c) _ hz (b13_at m c t k) (b14_at m c t k)

end Cert.FfnIdeal.Ffn
end
-- ==== Proof.Ffn.Run.lean ====
/- The whole run of the ConvFFN kernel: its result array and its arguments at the end. -/
module

public import proofs.«01_k».proof.Proof.Ffn.Points

@[expose] public section

set_option maxRecDepth 16384

noncomputable section

namespace Cert.FfnIdeal.Ffn

open Cert.FfnIdeal Cert.FfnIdeal.Gen Cert.Shared Idealize.ShloMosaic Idealize.ShloMosaic.TcCoe

variable (m : (ℓ : Loc nD τ sig) → Buf (Elt Ideal) ℓ) (ρ : Dev nD → PrngReg) (c : Dev nD)

/-- The result array: the sublayer's result at every row and column. -/
def G : S16384x1024.Idx → EReal := fun i => outOf m c (i 0) (i 1)

/-- The block a row block's last point writes back is that block of the result array. -/
theorem flushed_eq (t : Fin cfg0.N) (hf : (cfg0.win 15).flush t = true) :
    (dats (F := Ideal) m 0 c).flushed 15 t = ((cfg0.win 15).blk t).view.read (Elt Ideal) (G m c) := by
  have h1 : t.val % 11 = 10 := (flush0_15 t).mp hf
  obtain ⟨-, -, -, -, -, -, e0, e1⟩ := idx_rows t
  show (cfg0.win 15).cut (grid0.coords t) ((dats (F := Ideal) m 0 c).after 15 t) = _
  rw [after0_15]
  funext y
  have hy0 : (y 0).val < 1024 := (y 0).isLt
  have hy1 : (y 1).val < 1024 := (y 1).isLt
  have hb0 : (((cfg0.win 15).blk t).view.emb y 0).val = win0_15.index t (0 : Fin 2) * 1024 + 1 * (y 0).val := rfl
  have hb1 : (((cfg0.win 15).blk t).view.emb y 1).val = win0_15.index t (1 : Fin 2) * 1024 + 1 * (y 1).val := rfl
  have hx : (cfg0.win 15).xinj (grid0.coords t) y = (ix2 ⟨(y 0).val, hy0⟩ ⟨(y 1).val, hy1⟩ : S1024x1024.Idx) :=
    idx_eq _ _ _ rfl rfl
  show (outsAt0 m c t.val t.isLt).1 ((cfg0.win 15).xinj (grid0.coords t) y)
    = outOf m c (((cfg0.win 15).blk t).view.emb y 0) (((cfg0.win 15).blk t).view.emb y 1)
  rw [hx]
  refine (out_at m c t h1 ⟨(y 0).val, hy0⟩ ⟨(y 1).val, hy1⟩ (((cfg0.win 15).blk t).view.emb y 0) ?_).trans (congrArg (outOf m c _) (Fin.ext ?_))
  · rw [hb0, e0]; show _ = 1024 * (t.val / 11) + (y 0).val; omega
  · rw [hb1, e1]; show (y 1).val = _; omega

/-- An element of the result array is in a point's block when its row is. -/
theorem mem_blk (t : Fin cfg0.N) (i : S16384x1024.Idx) (h : (i 0).val / 1024 = t.val / 11) : i ∈ ((cfg0.win 15).blk t).view.set := by
  have hi1 : (i 1).val < 1024 := (i 1).isLt
  obtain ⟨-, -, -, -, -, -, e0, e1⟩ := idx_rows t
  show i ∈ ((View.whole main_v7).slice (win0_15.rect t)).set
  rw [View.set_slice_whole, Rect.mem_set_unit]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 1024 ≤ (i 1).val ∧ (i 1).val < win0_15.index t (1 : Fin 2) * 1024 + 1024; omega

/-- Every element of the result array is in the block some row block's last point writes back. -/
theorem cover (i : S16384x1024.Idx) : ∃ t : Fin cfg0.N, (cfg0.win 15).flush t = true ∧ i ∈ ((cfg0.win 15).blk t).view.set := by
  have hi0 : (i 0).val < 16384 := (i 0).isLt
  have hN : 11 * ((i 0).val / 1024) + 10 < cfg0.N := lt_of_lt_of_eq (by omega) N_0.symm
  exact ⟨⟨11 * ((i 0).val / 1024) + 10, hN⟩, (flush0_15 _).mpr (by show (11 * ((i 0).val / 1024) + 10) % 11 = 10; omega),
    mem_blk _ i (by show _ = (11 * ((i 0).val / 1024) + 10) / 11; omega)⟩

/-- The array the output window leaves. -/
theorem final : (dats (F := Ideal) m 0 c).arrAt 15 cfg0.N = G m c :=
  (dats (F := Ideal) m 0 c).arrAt_eq_of_cover 15 _ (fun t hf => flushed_eq m c t hf) cover

/-- An argument a window reads is unchanged; one no window reads is the launch's. -/
theorem rest_kept (r : _) (h : Pipeline.FramePost cfgs (dats (F := Ideal) m) 0 (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  ⟨((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 8).trans (((dats m 0 c).arrAt_in 8 rfl _).trans ((A_eq m c 8).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The run: the result array at the sublayer's result, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 15).trans (final m c), rest_kept m c r h⟩) (run_main m ρ)

end Cert.FfnIdeal.Ffn
end
-- ==== Proof.Ffn.RefAt.lean ====
/- The reference read at an index, stage by stage. -/
module

public import proofs.«01_k».proof.Proof.Gen.FfnRefIdeal.Read
public import Idealize.ShloMosaic.Lib.Pointwise
public import Idealize.ShloMosaic.Lib.KernelVsHost
public import proofs.«01_k».proof.Proof.Ffn.Spec

@[expose] public section

set_option maxRecDepth 16384

noncomputable section

namespace Cert.FfnRefIdeal.Ffn

open Cert.FfnRefIdeal Cert.FfnRefIdeal.Gen Cert.FfnRefIdeal.Read Idealize.ShloMosaic Idealize.ShloMosaic.TcCoe Idealize.ShloMosaic.StableHlo

/-- The contents of an array of floats. -/
abbrev C (s : Shape) := (⟨s, .f32⟩ : BufTy).Contents (Elt Ideal)

/-- The rows in four sequences. -/
theorem v0_at (x : C S16384x1024) (b : Fin 4) (t : Fin 4096) (k : Fin 1024) (R : Fin 16384) (hR : R.val = b.val * 4096 + t.val) :
    val_main_v0 (F := Ideal) x (ix3 b t k) = x (ix2 R k) := by
  rw [val_main_v0_apply]
  refine congrArg x ?_
  funext a; apply Fin.ext; fin_cases a
  · show ((b.val * 4096 + t.val) * 1024 + k.val) / 1024 = R.val; omega
  · show ((b.val * 4096 + t.val) * 1024 + k.val) % 1024 = k.val; omega

/-- The reference's gelu. -/
def gelu (g : EReal) : EReal :=
  Ideal.ofBits .f32 0x3F000000#32 * g
    * (1 + Ideal.erf (Ideal.div g (Ideal.sqrt (Ideal.ofBits .f32 0x40000000#32))))

variable (x : C S16384x1024) (w : C S1024x5632) (bi : C S5632) (cw : C S3x5632) (cb : C S5632) (wo : C S2816x1024) (bo g e : C S1024)

/-- The up projection. -/
theorem v6_at (b : Fin 4) (t : Fin 4096) (n : Fin 5632) (R : Fin 16384) (hR : R.val = b.val * 4096 + t.val) :
    val_main_v6 (F := Ideal) x w bi (ix3 b t n) = FfnSpec.up x w bi R n := by
  have h : val_main_v6 (F := Ideal) x w bi (ix3 b t n) = ∑ k, val_main_v0 (F := Ideal) x (ix3 b t k) * w (ix2 k n) + bi (ix1 n) := by
    pointwise [val_main_v6, val_main_v5, val_main_v4, val_main_v3]
  rw [h, Finset.sum_congr rfl fun k _ => congrArg (· * w (ix2 k n)) (v0_at x b t k R hR)]
  rfl

/-- The padding value. -/
theorem pad_zero (i : S_.Idx) : val_main_call0_v0 (F := Ideal) i = (0 : EReal) := by
  rw [val_main_call0_v0_apply]
  show ((((0#32 : BitVec 32).toInt : ℝ)) : EReal) = 0
  simp

/-- The padded rows. -/
theorem v7_at (b : Fin 4) (t : Fin 4098) (n : Fin 5632) :
    val_main_v7 (F := Ideal) x w bi (ix3 b t n) = if h : 1 ≤ t.val ∧ t.val - 1 < 4096 then val_main_v6 (F := Ideal) x w bi (ix3 b ⟨t.val - 1, h.2⟩ n) else 0 := by
  have h : val_main_v7 (F := Ideal) x w bi (ix3 b t n) = if h : 1 ≤ t.val ∧ t.val - 1 < 4096 then val_main_v6 (F := Ideal) x w bi (ix3 b ⟨t.val - 1, h.2⟩ n) else val_main_call0_v0 (F := Ideal) (Shape.Idx.first h_S_) := by
    pointwise [val_main_v7]
  rw [h]; split
  · rfl
  · exact pad_zero _

/-- The convolution. -/
theorem v30_at (b : Fin 4) (t : Fin 4096) (n : Fin 5632) (R : Fin 16384) (hR : R.val = b.val * 4096 + t.val) :
    val_main_v30 (F := Ideal) x w bi cw cb (ix3 b t n) = FfnSpec.conv x w bi cw cb R n := by
  have h : val_main_v30 (F := Ideal) x w bi cw cb (ix3 b t n)
      = val_main_v7 (F := Ideal) x w bi (ix3 b ⟨t.val, by omega⟩ n) * cw (ix2 0 n) + val_main_v7 (F := Ideal) x w bi (ix3 b ⟨1 + t.val, by omega⟩ n) * cw (ix2 1 n)
        + val_main_v7 (F := Ideal) x w bi (ix3 b ⟨2 + t.val, by omega⟩ n) * cw (ix2 2 n) + cb (ix1 n) := by
    pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8]
  have e0 : val_main_v7 (F := Ideal) x w bi (ix3 b ⟨t.val, by omega⟩ n) = FfnSpec.before x w bi R n := by
    rw [v7_at]; unfold FfnSpec.before
    by_cases ht : t.val = 0
    · rw [dif_neg (by show ¬(1 ≤ t.val ∧ _); omega), dif_pos (by omega)]
    · rw [dif_pos (by show 1 ≤ t.val ∧ t.val - 1 < 4096; omega), dif_neg (by omega)]
      exact v6_at x w bi b _ n _ (by show R.val - 1 = b.val * 4096 + (t.val - 1); omega)
  have e1 : val_main_v7 (F := Ideal) x w bi (ix3 b ⟨1 + t.val, by omega⟩ n) = FfnSpec.up x w bi R n := by
    rw [v7_at, dif_pos (by show 1 ≤ 1 + t.val ∧ 1 + t.val - 1 < 4096; omega)]
    exact v6_at x w bi b _ n _ (by show R.val = b.val * 4096 + (1 + t.val - 1); omega)
  have e2 : val_main_v7 (F := Ideal) x w bi (ix3 b ⟨2 + t.val, by omega⟩ n) = FfnSpec.next x w bi R n := by
    rw [v7_at]; unfold FfnSpec.next
    by_cases ht : t.val = 4095
    · rw [dif_neg (by show ¬(1 ≤ 2 + t.val ∧ 2 + t.val - 1 < 4096); omega), dif_pos (by omega)]
    · rw [dif_pos (by show 1 ≤ 2 + t.val ∧ 2 + t.val - 1 < 4096; omega), dif_neg (by omega)]
      exact v6_at x w bi b _ n _ (by show R.val + 1 = b.val * 4096 + (2 + t.val - 1); omega)
  rw [h, e0, e1, e2]
  rfl

/-- The gated rows. -/
theorem v42_at (b : Fin 4) (t : Fin 4096) (n : Fin 2816) :
    val_main_v42 (F := Ideal) x w bi cw cb (ix3 b t n)
      = val_main_v30 (F := Ideal) x w bi cw cb (ix3 b t ⟨n.val, by omega⟩) * gelu (val_main_v30 (F := Ideal) x w bi cw cb (ix3 b t ⟨2816 + n.val, by omega⟩)) := by
  unfold gelu
  pointwise [val_main_v42, val_main_v41, val_main_v40, val_main_v39, val_main_v38, val_main_v37, val_main_v36, val_main_v35, val_main_v34, val_main_v33, val_main_v32, val_main_v31, val_main_cst_0, val_main_cst_1, val_main_cst_2]

/-- The residual sum. -/
theorem v49_at (b : Fin 4) (t : Fin 4096) (k : Fin 1024) (R : Fin 16384) (hR : R.val = b.val * 4096 + t.val) :
    val_main_v49 (F := Ideal) x w bi cw cb wo bo (ix3 b t k)
      = FfnSpec.resid x w bi cw cb wo bo gelu (Ideal.sqrt (Ideal.sqrt (Ideal.ofBits .f32 0x41000000#32))) R k := by
  have h : val_main_v49 (F := Ideal) x w bi cw cb wo bo (ix3 b t k)
      = Ideal.sqrt (Ideal.sqrt (Ideal.ofBits .f32 0x41000000#32)) * val_main_v0 (F := Ideal) x (ix3 b t k)
        + (∑ n : Fin 2816, val_main_v42 (F := Ideal) x w bi cw cb (ix3 b t n) * wo (ix2 n k) + bo (ix1 k)) := by
    pointwise [val_main_v49, val_main_v48, val_main_v47, val_main_v46, val_main_v45, val_main_v44, val_main_v43, val_main_v2, val_main_v1, val_main_cst]
  rw [h, v0_at x b t k R hR, ← add_assoc, Finset.sum_congr rfl fun n _ => congrArg (· * wo (ix2 n k)) (v42_at x w bi cw cb b t n)]
  unfold FfnSpec.resid FfnSpec.term
  simp only [v30_at x w bi cw cb b t _ R hR]

/-- The norm's mean. -/
theorem v53_at (b : Fin 4) (t : Fin 4096) :
    val_main_v53 (F := Ideal) x w bi cw cb wo bo (ix3 b t 0)
      = Ideal.div (∑ k : Fin 1024, val_main_v49 (F := Ideal) x w bi cw cb wo bo (ix3 b t k)) (Ideal.ofBits .f32 0x44800000#32) := by
  pointwise [val_main_v53, val_main_v52, val_main_v51, val_main_v50, val_main_cst_3, val_main_cst_4]

/-- The norm. -/
theorem v73_at (b : Fin 4) (t : Fin 4096) (k : Fin 1024) :
    val_main_v73 (F := Ideal) x w bi cw cb wo bo g e (ix3 b t k)
      = FfnSpec.norm g e (fun n => val_main_v49 (F := Ideal) x w bi cw cb wo bo (ix3 b t n)) k := by
  unfold FfnSpec.norm
  dsimp only
  rw [← v53_at]
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_cst_5, val_main_cst_6, val_main_cst_7]

/-- The result, row by row. -/
theorem v74_at (R : Fin 16384) (k : Fin 1024) :
    val_main_v74 (F := Ideal) x w bi cw cb wo bo g e (ix2 R k)
      = FfnSpec.out x w bi cw cb wo bo g e gelu (Ideal.sqrt (Ideal.sqrt (Ideal.ofBits .f32 0x41000000#32))) R k := by
  have h : val_main_v74 (F := Ideal) x w bi cw cb wo bo g e (ix2 R k)
      = val_main_v73 (F := Ideal) x w bi cw cb wo bo g e (ix3 ⟨R.val / 4096, by omega⟩ ⟨R.val % 4096, by omega⟩ k) := by
    rw [val_main_v74_apply]
    refine congrArg _ ?_
    funext a; apply Fin.ext; fin_cases a
    · show (R.val * 1024 + k.val) / 4194304 = R.val / 4096; omega
    · show (R.val * 1024 + k.val) / 1024 % 4096 = R.val % 4096; omega
    · show (R.val * 1024 + k.val) % 1024 = k.val; omega
  rw [h, v73_at]
  unfold FfnSpec.out
  refine congrArg (fun z => FfnSpec.norm g e z k) (funext fun n => v49_at x w bi cw cb wo bo _ _ n R ?_)
  show R.val = R.val / 4096 * 4096 + R.val % 4096
  omega

end Cert.FfnRefIdeal.Ffn
end
-- ==== Proof.Ffn.Claims.lean ====
/- The claims about the ConvFFN sublayer. -/
module

public import proofs.«01_k».proof.Defs
public import proofs.«01_k».proof.Proof.Ffn.Run
public import proofs.«01_k».proof.Proof.Ffn.RefAt
public import proofs.«01_k».proof.Proof.Gen.Ffn.Frame
public import proofs.«01_k».proof.Proof.Gen.FfnRefIdeal.Run
public import Idealize.ShloMosaic.Adequacy
public import Idealize.ShloMosaic.Init
public import Idealize.ShloMosaic.Lib.Quiescent

@[expose] public section

set_option maxRecDepth 16384

noncomputable section

namespace Cert.Proof.Ffn

open Idealize.ShloMosaic Idealize.ShloMosaic.TcCoe

/-- The float word of two is two. -/
theorem two : Ideal.ofBits .f32 0x40000000#32 = ((2 : ℝ) : EReal) := by
  simp [Ideal.ofBits, Ideal.ieee, -EReal.coe_mul]; norm_num

/-- The float word of eight is eight. -/
theorem eight : Ideal.ofBits .f32 0x41000000#32 = ((8 : ℝ) : EReal) := by
  simp [Ideal.ofBits, Ideal.ieee, -EReal.coe_mul]; norm_num

/-- The kernel's named constant is the reciprocal of the root of two. -/
theorem named_inv : Named.named (F := Ideal) Cert.FfnIdeal.κ "inv_sqrt_2" (φ := .f32) 0x3F3504F3#32 = (((Real.sqrt 2)⁻¹ : ℝ) : EReal) :=
  IdealRules.named_const.ideal_named_scalar _ _ _ _ rfl

/-- The kernel's residual weight is the fourth root of eight. -/
theorem named_alpha : Named.named (F := Ideal) Cert.FfnIdeal.κ "alpha" (φ := .f32) 0x3FD744FD#32 = ((Real.sqrt (Real.sqrt 8) : ℝ) : EReal) :=
  IdealRules.named_const.ideal_named_scalar _ _ _ _ rfl

/-- The two gelus agree: dividing by the root of two is multiplying by its reciprocal. -/
theorem gelu_eq : Cert.FfnIdeal.Ffn.gelu = Cert.FfnRefIdeal.Ffn.gelu := by
  funext g
  unfold Cert.FfnIdeal.Ffn.gelu Cert.FfnRefIdeal.Ffn.gelu
  have h2 : Real.sqrt 2 ≠ 0 := by positivity
  rw [named_inv, two, Ideal.sqrt_coe, if_neg (by norm_num), Ideal.div_coe h2, one_div]
  rfl

/-- The residual weights agree. -/
theorem alpha_eq : Named.named (F := Ideal) Cert.FfnIdeal.κ "alpha" (φ := .f32) 0x3FD744FD#32
    = Ideal.sqrt (Ideal.sqrt (Ideal.ofBits .f32 0x41000000#32)) := by
  rw [named_alpha, eight, Ideal.sqrt_coe, if_neg (by norm_num), Ideal.sqrt_coe, if_neg (not_lt.mpr (Real.sqrt_nonneg _))]

/-- The reference runs, keeps its arguments and leaves no counter raised. -/
theorem quiescent_ref [Cert.FfnRefIdeal.Facts] : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The two named constants stand for the reals they are named after. -/
theorem preserves : Cert.preserves_Ffn_FfnIdeal :=
  ⟨IdealRules.named_const.statement Cert.FfnIdeal.κ "inv_sqrt_2" .f32 0x3F3504F3#32 (((Real.sqrt 2)⁻¹ : ℝ) : EReal) rfl,
    IdealRules.named_const.statement Cert.FfnIdeal.κ "alpha" .f32 0x3FD744FD#32 ((Real.sqrt (Real.sqrt 8) : ℝ) : EReal) rfl⟩

/-- The kernel's result is the reference's, element by element. -/
theorem algebraic [Cert.FfnIdeal.Facts] [Cert.FfnRefIdeal.Facts] : Cert.algebraic_FfnIdeal_FfnRefIdeal := by
  intro m ρ m' ρ' _ hagree
  refine ⟨_, Cert.FfnIdeal.Ffn.run m ρ, ?_⟩
  refine (θ_run Cert.FfnRefIdeal.defs _ _).mono (fun _ h c => ⟨?_, (h c).2⟩) (Cert.FfnRefIdeal.Value.run (F := Ideal) m' ρ')
  obtain ⟨h0, h1, h2, h3, h4, h5, h6, h7, h8⟩ := hagree c
  refine (h c).1.trans ((Cert.FfnRefIdeal.Read.val_main_v74_eq m' c).trans ?_)
  rw [h0, h1, h2, h3, h4, h5, h6, h7, h8]
  funext i
  refine (congrArg _ (eq_ix2 (n0 := 16384) (n1 := 1024) i)).trans ((Cert.FfnRefIdeal.Ffn.v74_at _ _ _ _ _ _ _ _ _ (i 0) (i 1)).trans ?_)
  rw [← gelu_eq, ← alpha_eq]
  rfl

end Cert.Proof.Ffn
end
-- ==== Proof.Qkv.Kernel.lean ====
/- The projection kernel's result array: every row block's rows times the weight, plus the bias, times the column's scale. -/
module

public import proofs.«01_k».proof.Proof.Gen.QkvIdeal.Value
public import proofs.«01_k».proof.Proof.Shared.Arrays
public import Idealize.ShloMosaic.Lib.Pointwise

@[expose] public section

set_option maxRecDepth 16384

noncomputable section

namespace Cert.QkvIdeal.Qkv

open Cert.QkvIdeal Cert.QkvIdeal.Gen Cert.Shared Idealize.ShloMosaic Idealize.ShloMosaic.TcCoe

/-- What one grid point stores, element by element. -/
theorem pay_at (x : Vec Ideal S1024x1024 .f32) (w : Vec Ideal S1024x3072 .bf16) (b s : Vec Ideal S1x3072 .f32) (r : Fin 1024) (n : Fin 3072) :
    k0_pay1 (F := Ideal) x w b s (ix2 r n) = (∑ k : Fin 1024, x (ix2 r k) * w (ix2 k n) + b (ix2 0 n)) * s (ix2 0 n) := by
  pointwise [k0_pay1]

theorem out_eq (x : Vec Ideal S1024x1024 .f32) (w : Vec Ideal S1024x3072 .bf16) (b s : Vec Ideal S1x3072 .f32) :
    out0_4 (F := Ideal) x w b s = k0_pay1 (F := Ideal) x w b s := by
  unfold out0_4
  refine (canon_whole _ _ _).trans ?_
  rw [show View.ld x r0_0 = x from ld_whole _ _, show View.ld w r0_1 = w from ld_whole _ _, show View.ld b r0_2 = b from ld_whole _ _,
    show View.ld s r0_2 = s from ld_whole _ _]

variable (m : (ℓ : Loc nD τ sig) → Buf (Elt Ideal) ℓ) (ρ : Dev nD → PrngReg) (c : Dev nD)

/-- The arguments as launched. -/
abbrev aX : S16384x1024.Idx → EReal := m ((c : Thread nD τ).loc main_arg0)
abbrev aW : S1024x3072.Idx → EReal := m ((c : Thread nD τ).loc main_arg1)
abbrev aB : S3072.Idx → EReal := m ((c : Thread nD τ).loc main_arg2)

/-- The scale of a column: an eighth for the queries, one for the keys and values. -/
def scale (n : Fin 3072) : EReal := if n.val < 1024 then Ideal.ofBits .f32 0x3E000000#32 else 1

/-! ## The arrays the host operations leave -/

theorem v6_at (k : Fin 1024) (n : Fin 3072) : (V m c main_v6 : S1024x3072.Idx → EReal) (ix2 k n) = aW m c (ix2 k n) := by
  have h : V m c main_v6 = (truncf (F := Ideal) (s := S1024x3072) (φ := .f32) .bf16 (m ((c : Thread nD τ).loc main_arg1)) bitsLt_bf16_f32) := by
    show StableHlo.after (List.flatten [hostOps0, hostOps0_1, hostOps0_2]) _ (Proc.devRef .tc main_v6) = _
    simp only [hostOps0, hostOps0_1, hostOps0_2, List.flatten_cons, List.flatten_nil, List.append_nil, List.cons_append, List.nil_append]
    after_results
  rw [h]; pointwise []

theorem v7_at (n : Fin 3072) : (V m c main_v7 : S1x3072.Idx → EReal) (ix2 0 n) = aB m c (ix1 n) := by
  have h : V m c main_v7 = (broadcastInDim S1x3072 ![1] bcast_S3072_S1x3072_1 (m ((c : Thread nD τ).loc main_arg2) : Vec Ideal S3072 .f32) : Vec Ideal S1x3072 .f32) := by
    show StableHlo.after (List.flatten [hostOps0, hostOps0_1, hostOps0_2]) _ (Proc.devRef .tc main_v7) = _
    simp only [hostOps0, hostOps0_1, hostOps0_2, List.flatten_cons, List.flatten_nil, List.append_nil, List.cons_append, List.nil_append]
    after_results
  rw [h]; pointwise []

theorem v5_at (n : Fin 3072) : (V m c main_v5 : S1x3072.Idx → EReal) (ix2 0 n) = scale n := by
  have h : V m c main_v5 = (broadcastInDim S1x3072 ![1] bcast_S3072_S1x3072_1
      (select (cmpi .slt (iotaInDim S3072 32 0) (broadcastInDim S3072 ![] bcast_S_S3072 (constantI S_ 32 1024#32)))
        (broadcastInDim S3072 ![] bcast_S_S3072 (constant (F := Ideal) S_ .f32 0x3E000000#32))
        (broadcastInDim S3072 ![] bcast_S_S3072 (constant (F := Ideal) S_ .f32 0x3F800000#32)) : Vec Ideal S3072 .f32) : Vec Ideal S1x3072 .f32) := by
    show StableHlo.after (List.flatten [hostOps0, hostOps0_1, hostOps0_2]) _ (Proc.devRef .tc main_v5) = _
    simp only [hostOps0, hostOps0_1, hostOps0_2, List.flatten_cons, List.flatten_nil, List.append_nil, List.cons_append, List.nil_append]
    after_results
    rfl
  rw [h]; unfold scale
  pointwise []
  by_cases hn : n.val < 1024
  · rw [if_pos hn, (WordCmp.cmpi_slt_ofNat_eq_one_iff (w := 32) (by omega) (by omega)).mpr hn]; rfl
  · rw [if_neg hn, (WordCmp.cmpi_slt_ofNat_eq_zero_iff (w := 32) (by omega) (by omega)).mpr (by omega)]; rfl

/-! ## The blocks -/

/-- Point `t` is row block `t`; the other operands are whole. -/
theorem idx_all : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem b0_at (t : Fin cfg0.N) (r k : Fin 1024) (R : Fin 16384) (hR : R.val = 1024 * t.val + r.val) :
    (iblk m c 0 t : S1024x1024.Idx → EReal) (ix2 r k) = aX m c (ix2 R k) := by
  obtain ⟨e0, e1, -⟩ := idx_all t
  refine (congrFun (V_main_arg0 m c) _).trans (congrArg (aX m c) (idx_eq _ _ _ ?_ ?_))
  · show win0_0.index t (0 : Fin 2) * 1024 + 1 * r.val = R.val; omega
  · show win0_0.index t (1 : Fin 2) * 1024 + 1 * k.val = k.val; omega

theorem b1_at (t : Fin cfg0.N) (k : Fin 1024) (n : Fin 3072) :
    (iblk m c 1 t : S1024x3072.Idx → EReal) (ix2 k n) = aW m c (ix2 k n) := by
  obtain ⟨-, -, e0, e1, -⟩ := idx_all t
  refine Eq.trans (congrArg (V m c main_v6 : S1024x3072.Idx → EReal) (idx_eq _ k n ?_ ?_)) (v6_at m c k n)
  · show win0_1.index t (0 : Fin 2) * 1024 + 1 * k.val = k.val; omega
  · show win0_1.index t (1 : Fin 2) * 3072 + 1 * n.val = n.val; omega

theorem b2_at (t : Fin cfg0.N) (n : Fin 3072) : (iblk m c 2 t : S1x3072.Idx → EReal) (ix2 0 n) = aB m c (ix1 n) := by
  obtain ⟨-, -, -, -, e0, e1, -⟩ := idx_all t
  refine Eq.trans (congrArg (V m c main_v7 : S1x3072.Idx → EReal) (idx_eq _ 0 n ?_ ?_)) (v7_at m c n)
  · show win0_2.index t (0 : Fin 2) * 1 + 1 * 0 = 0; omega
  · show win0_2.index t (1 : Fin 2) * 3072 + 1 * n.val = n.val; omega

theorem b3_at (t : Fin cfg0.N) (n : Fin 3072) : (iblk m c 3 t : S1x3072.Idx → EReal) (ix2 0 n) = scale n := by
  obtain ⟨-, -, -, -, -, -, e0, e1, -⟩ := idx_all t
  refine Eq.trans (congrArg (V m c main_v5 : S1x3072.Idx → EReal) (idx_eq _ 0 n ?_ ?_)) (v5_at m c n)
  · show win0_3.index t (0 : Fin 2) * 1 + 1 * 0 = 0; omega
  · show win0_3.index t (1 : Fin 2) * 3072 + 1 * n.val = n.val; omega

/-! ## The result array -/

/-- The projected row `R` at column `n`. -/
def proj (R : Fin 16384) (n : Fin 3072) : EReal := (∑ k : Fin 1024, aX m c (ix2 R k) * aW m c (ix2 k n) + aB m c (ix1 n)) * scale n

def G : S16384x3072.Idx → EReal := fun i => proj m c (i 0) (i 1)

/-- What point `t` stores is row block `t` of the projection. -/
theorem out_at (t : Fin cfg0.N) (r : Fin 1024) (n : Fin 3072) (R : Fin 16384) (hR : R.val = 1024 * t.val + r.val) :
    out0_4 (F := Ideal) (iblk m c 0 t) (iblk m c 1 t) (iblk m c 2 t) (iblk m c 3 t) (ix2 r n) = proj m c R n := by
  rw [out_eq, pay_at]
  unfold proj
  rw [b2_at, b3_at]
  refine congrArg (fun z : EReal => (z + aB m c (ix1 n)) * scale n) (Finset.sum_congr rfl fun k _ => ?_)
  rw [b0_at m c t r k R hR, b1_at]

/-- Each point writes back its block of the result array. -/
theorem flushed_eq (t : Fin cfg0.N) : (dats (F := Ideal) m 0 c).flushed 4 t = ((cfg0.win 4).blk t).view.read (Elt Ideal) (G m c) := by
  obtain ⟨-, -, -, -, -, -, -, -, e0, e1⟩ := idx_all t
  rw [Value.flushed4]
  funext y
  have hy0 : (y 0).val < 1024 := (y 0).isLt
  have hy1 : (y 1).val < 3072 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 3072 + 1 * (y 1).val := rfl
  have hx : (cfg0.win 4).xinj (grid0.coords t) y = (ix2 ⟨(y 0).val, hy0⟩ ⟨(y 1).val, hy1⟩ : S1024x3072.Idx) :=
    idx_eq _ _ _ rfl rfl
  show out0_4 (F := Ideal) (iblk m c 0 t) (iblk m c 1 t) (iblk m c 2 t) (iblk m c 3 t) ((cfg0.win 4).xinj (grid0.coords t) y)
    = proj m c (((cfg0.win 4).blk t).view.emb y 0) (((cfg0.win 4).blk t).view.emb y 1)
  rw [hx]
  refine (out_at m c t ⟨(y 0).val, hy0⟩ ⟨(y 1).val, hy1⟩ (((cfg0.win 4).blk t).view.emb y 0) ?_).trans (congrArg (proj m c _) (Fin.ext ?_))
  · rw [hb0, e0]; show _ = 1024 * t.val + (y 0).val; omega
  · rw [hb1, e1]; show (y 1).val = _; omega

/-- An element of the result array is in a point's block when its row is. -/
theorem mem_blk (t : Fin cfg0.N) (i : S16384x3072.Idx) (h : (i 0).val / 1024 = t.val) : i ∈ ((cfg0.win 4).blk t).view.set := by
  have hi1 : (i 1).val < 3072 := (i 1).isLt
  obtain ⟨-, -, -, -, -, -, -, -, e0, e1⟩ := idx_all t
  show i ∈ ((View.whole main_v8).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 3072 ≤ (i 1).val ∧ (i 1).val < win0_4.index t (1 : Fin 2) * 3072 + 3072; omega

theorem cover (i : S16384x3072.Idx) : ∃ t : Fin cfg0.N, (cfg0.win 4).flush t = true ∧ i ∈ ((cfg0.win 4).blk t).view.set := by
  have hi0 : (i 0).val < 16384 := (i 0).isLt
  have hN : (i 0).val / 1024 < cfg0.N := lt_of_lt_of_eq (by omega) N_0.symm
  exact ⟨⟨(i 0).val / 1024, hN⟩, flush0_4 _, mem_blk _ i rfl⟩

/-- The array the output window leaves. -/
theorem final : (dats (F := Ideal) m 0 c).arrAt 4 cfg0.N = G m c :=
  (dats (F := Ideal) m 0 c).arrAt_eq_of_cover 4 _ (fun t _ => flushed_eq m c t) cover

/-- The run: the result array at the projection, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.QkvIdeal.Qkv
end
-- ==== Proof.Qkv.Reference.lean ====
/- The projection's reference read at an index. -/
module

public import proofs.«01_k».proof.Proof.Gen.QkvRefIdeal.Read
public import Idealize.ShloMosaic.Lib.Pointwise
public import Idealize.ShloMosaic.Lib.KernelVsHost

@[expose] public section

set_option maxRecDepth 16384

noncomputable section

namespace Cert.QkvRefIdeal.Qkv

open Cert.QkvRefIdeal Cert.QkvRefIdeal.Gen Cert.QkvRefIdeal.Read Idealize.ShloMosaic Idealize.ShloMosaic.TcCoe Idealize.ShloMosaic.StableHlo

/-- The contents of an array of floats. -/
abbrev C (s : Shape) := (⟨s, .f32⟩ : BufTy).Contents (Elt Ideal)

variable (x : C S16384x1024) (w : C S1024x3072) (b : C S3072)

/-- The product plus the bias. -/
theorem v3_at (R : Fin 16384) (n : Fin 3072) :
    val_main_v3 (F := Ideal) x w b (ix2 R n) = ∑ k, x (ix2 R k) * w (ix2 k n) + b (ix1 n) := by
  pointwise [val_main_v3, val_main_v2, val_main_v1, val_main_v0]

/-- The three parts side by side, the first scaled by an eighth. -/
theorem v10_at (R : Fin 16384) (n : Fin 3072) :
    val_main_v10 (F := Ideal) x w b (ix2 R n)
      = if n.val < 1024 then val_main_v3 (F := Ideal) x w b (ix2 R n) * Ideal.ofBits .f32 0x3E000000#32 else val_main_v3 (F := Ideal) x w b (ix2 R n) := by
  pointwise [val_main_v10, val_main_v9, val_main_v8, val_main_v7, val_main_v6, val_main_v5, val_main_v4, val_main_cst]
  by_cases h0 : n.val < 1024
  · rw [dif_pos h0, if_pos h0]
  · rw [dif_neg h0, if_neg h0]
    split
    · exact congrArg (fun j => val_main_v3 (F := Ideal) x w b (ix2 R j)) (Fin.ext (by show 1024 + (n.val - 1024) = n.val; omega))
    · exact congrArg (fun j => val_main_v3 (F := Ideal) x w b (ix2 R j)) (Fin.ext (by show 2048 + (n.val - 1024 - 1024) = n.val; omega))

/-- The result: a column beyond the queries is, as it were, scaled by one. -/
theorem v10_eq (R : Fin 16384) (n : Fin 3072) :
    val_main_v10 (F := Ideal) x w b (ix2 R n)
      = (∑ k, x (ix2 R k) * w (ix2 k n) + b (ix1 n)) * (if n.val < 1024 then Ideal.ofBits .f32 0x3E000000#32 else 1) := by
  rw [v10_at, v3_at]
  split
  · rfl
  · rw [mul_one]

end Cert.QkvRefIdeal.Qkv
end
-- ==== Proof.Qkv.Claims.lean ====
/- The claims about the projection to queries, keys and values. -/
module

public import proofs.«01_k».proof.Defs
public import proofs.«01_k».proof.Proof.Qkv.Kernel
public import proofs.«01_k».proof.Proof.Qkv.Reference
public import proofs.«01_k».proof.Proof.Gen.Qkv.Frame
public import proofs.«01_k».proof.Proof.Gen.QkvRefIdeal.Run
public import Idealize.ShloMosaic.Adequacy
public import Idealize.ShloMosaic.Init
public import Idealize.ShloMosaic.Lib.Quiescent

@[expose] public section

set_option maxRecDepth 16384

noncomputable section

namespace Cert.Proof.Qkv

open Idealize.ShloMosaic Idealize.ShloMosaic.TcCoe

/-- The reference runs, keeps its arguments and leaves no counter raised. -/
theorem quiescent_ref [Cert.QkvRefIdeal.Facts] : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The kernel's result is the reference's, element by element: a column beyond the queries is multiplied by one. -/
theorem algebraic [Cert.QkvIdeal.Facts] [Cert.QkvRefIdeal.Facts] : Cert.algebraic_QkvIdeal_QkvRefIdeal := by
  intro m ρ m' ρ' _ hagree
  refine ⟨_, Cert.QkvIdeal.Qkv.run m ρ, ?_⟩
  refine (θ_run Cert.QkvRefIdeal.defs _ _).mono (fun _ h c => ⟨?_, (h c).2⟩) (Cert.QkvRefIdeal.Value.run (F := Ideal) m' ρ')
  obtain ⟨h0, h1, h2⟩ := hagree c
  refine (h c).1.trans ((Cert.QkvRefIdeal.Read.val_main_v10_eq _ _ _).trans ?_)
  rw [h0, h1, h2]
  funext i
  exact (congrArg _ (eq_ix2 (n0 := 16384) (n1 := 3072) i)).trans (Cert.QkvRefIdeal.Qkv.v10_eq _ _ _ (i 0) (i 1))

end Cert.Proof.Qkv
end
-- ==== Proof.Out.Kernel.lean ====
/- The output projection kernel's result array: every row's projection added to the weighted residual, then normed. -/
module

public import proofs.«01_k».proof.Proof.Gen.OutIdeal.Value
public import proofs.«01_k».proof.Proof.Shared.Arrays
public import proofs.«01_k».proof.Proof.Ffn.Spec
public import Idealize.ShloMosaic.Lib.Pointwise

@[expose] public section

set_option maxRecDepth 16384

noncomputable section

namespace Cert.OutIdeal.Out

open Cert.OutIdeal Cert.OutIdeal.Gen Cert.Shared Idealize.ShloMosaic Idealize.ShloMosaic.TcCoe

/-- What one grid point stores, element by element: the norm of the weighted residual plus the projection. -/
theorem pay_at (o : Vec Ideal S1024x1024 .bf16) (w : Vec Ideal S1024x1024 .bf16) (b : Vec Ideal S1x1024 .f32) (x : Vec Ideal S1024x1024 .f32)
    (g e : Vec Ideal S1x1024 .f32) (r n : Fin 1024) :
    k0_pay1 (F := Ideal) o w b x g e (ix2 r n)
      = FfnSpec.norm (fun j => g (ix2 0 (j 0))) (fun j => e (ix2 0 (j 0)))
          (fun n => Named.named (F := Ideal) κ "alpha" (φ := .f32) 0x3FD744FD#32 * x (ix2 r n) + (∑ k : Fin 1024, o (ix2 r k) * w (ix2 k n) + b (ix2 0 n))) n := by
  unfold FfnSpec.norm
  dsimp only
  pointwise [k0_pay1]

theorem out_eq (o : Vec Ideal S1024x1024 .bf16) (x : Vec Ideal S1024x1024 .f32) (w : Vec Ideal S1024x1024 .bf16) (b g e : Vec Ideal S1x1024 .f32) :
    out0_6 (F := Ideal) o x w b g e = k0_pay1 (F := Ideal) o w b x g e := by
  unfold out0_6
  refine (canon_whole _ _ _).trans ?_
  rw [show View.ld o r0_0 = o from ld_whole _ _, show View.ld x r0_0 = x from ld_whole _ _, show View.ld w r0_0 = w from ld_whole _ _,
    show View.ld b r0_1 = b from ld_whole _ _, show View.ld g r0_1 = g from ld_whole _ _, show View.ld e r0_1 = e from ld_whole _ _]

variable (m : (ℓ : Loc nD τ sig) → Buf (Elt Ideal) ℓ) (ρ : Dev nD → PrngReg) (c : Dev nD)

/-- The arguments as launched. -/
abbrev aO : S16384x1024.Idx → EReal := m ((c : Thread nD τ).loc main_arg0)
abbrev aX : S16384x1024.Idx → EReal := m ((c : Thread nD τ).loc main_arg1)
abbrev aW : S1024x1024.Idx → EReal := m ((c : Thread nD τ).loc main_arg2)
abbrev aB : S1024.Idx → EReal := m ((c : Thread nD τ).loc main_arg3)
abbrev aG : S1024.Idx → EReal := m ((c : Thread nD τ).loc main_arg4)
abbrev aE : S1024.Idx → EReal := m ((c : Thread nD τ).loc main_arg5)

/-! ## The arrays the host operations leave -/

theorem v0_at (k n : Fin 1024) : (V m c main_v0 : S1024x1024.Idx → EReal) (ix2 k n) = aW m c (ix2 k n) := by
  have h : V m c main_v0 = (truncf (F := Ideal) (s := S1024x1024) (φ := .f32) .bf16 (m ((c : Thread nD τ).loc main_arg2)) bitsLt_bf16_f32) := by
    show StableHlo.after hostOps0 _ (Proc.devRef .tc main_v0) = _
    after_results
  rw [h]; pointwise []

theorem v1_at (n : Fin 1024) : (V m c main_v1 : S1x1024.Idx → EReal) (ix2 0 n) = aB m c (ix1 n) := by
  have h : V m c main_v1 = (broadcastInDim S1x1024 ![1] bcast_S1024_S1x1024_1 (m ((c : Thread nD τ).loc main_arg3) : Vec Ideal S1024 .f32) : Vec Ideal S1x1024 .f32) := by
    show StableHlo.after hostOps0 _ (Proc.devRef .tc main_v1) = _
    after_results
  rw [h]; pointwise []

theorem v2_at (n : Fin 1024) : (V m c main_v2 : S1x1024.Idx → EReal) (ix2 0 n) = aG m c (ix1 n) := by
  have h : V m c main_v2 = (broadcastInDim S1x1024 ![1] bcast_S1024_S1x1024_1 (m ((c : Thread nD τ).loc main_arg4) : Vec Ideal S1024 .f32) : Vec Ideal S1x1024 .f32) := by
    show StableHlo.after hostOps0 _ (Proc.devRef .tc main_v2) = _
    after_results
  rw [h]; pointwise []

theorem v3_at (n : Fin 1024) : (V m c main_v3 : S1x1024.Idx → EReal) (ix2 0 n) = aE m c (ix1 n) := by
  have h : V m c main_v3 = (broadcastInDim S1x1024 ![1] bcast_S1024_S1x1024_1 (m ((c : Thread nD τ).loc main_arg5) : Vec Ideal S1024 .f32) : Vec Ideal S1x1024 .f32) := by
    show StableHlo.after hostOps0 _ (Proc.devRef .tc main_v3) = _
    after_results
  rw [h]; pointwise []

/-! ## The blocks -/

/-- Point `t` is row block `t`; the weight and the row vectors are whole. -/
theorem idx_all : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem b0_at (t : Fin cfg0.N) (r k : Fin 1024) (R : Fin 16384) (hR : R.val = 1024 * t.val + r.val) :
    (iblk m c 0 t : S1024x1024.Idx → EReal) (ix2 r k) = aO m c (ix2 R k) := by
  obtain ⟨e0, e1, -⟩ := idx_all t
  refine (congrFun (V_main_arg0 m c) _).trans (congrArg (aO m c) (idx_eq _ _ _ ?_ ?_))
  · show win0_0.index t (0 : Fin 2) * 1024 + 1 * r.val = R.val; omega
  · show win0_0.index t (1 : Fin 2) * 1024 + 1 * k.val = k.val; omega

theorem b1_at (t : Fin cfg0.N) (r k : Fin 1024) (R : Fin 16384) (hR : R.val = 1024 * t.val + r.val) :
    (iblk m c 1 t : S1024x1024.Idx → EReal) (ix2 r k) = aX m c (ix2 R k) := by
  obtain ⟨-, -, e0, e1, -⟩ := idx_all t
  refine (congrFun (V_main_arg1 m c) _).trans (congrArg (aX m c) (idx_eq _ _ _ ?_ ?_))
  · show win0_1.index t (0 : Fin 2) * 1024 + 1 * r.val = R.val; omega
  · show win0_1.index t (1 : Fin 2) * 1024 + 1 * k.val = k.val; omega

theorem b2_at (t : Fin cfg0.N) (k n : Fin 1024) :
    (iblk m c 2 t : S1024x1024.Idx → EReal) (ix2 k n) = aW m c (ix2 k n) := by
  obtain ⟨-, -, -, -, -, -, e0, e1, -⟩ := idx_all t
  refine Eq.trans (congrArg (V m c main_v0 : S1024x1024.Idx → EReal) (idx_eq _ k n ?_ ?_)) (v0_at m c k n)
  · show win0_2.index t (0 : Fin 2) * 1024 + 1 * k.val = k.val; omega
  · show win0_2.index t (1 : Fin 2) * 1024 + 1 * n.val = n.val; omega

theorem b3_at (t : Fin cfg0.N) (n : Fin 1024) : (iblk m c 3 t : S1x1024.Idx → EReal) (ix2 0 n) = aB m c (ix1 n) := by
  obtain ⟨-, -, -, -, -, -, -, -, e0, e1, -⟩ := idx_all t
  refine Eq.trans (congrArg (V m c main_v1 : S1x1024.Idx → EReal) (idx_eq _ 0 n ?_ ?_)) (v1_at m c n)
  · show win0_3.index t (0 : Fin 2) * 1 + 1 * 0 = 0; omega
  · show win0_3.index t (1 : Fin 2) * 1024 + 1 * n.val = n.val; omega

theorem b4_at (t : Fin cfg0.N) (n : Fin 1024) : (iblk m c 4 t : S1x1024.Idx → EReal) (ix2 0 n) = aG m c (ix1 n) := by
  obtain ⟨-, -, -, -, -, -, -, -, -, -, e0, e1, -⟩ := idx_all t
  refine Eq.trans (congrArg (V m c main_v2 : S1x1024.Idx → EReal) (idx_eq _ 0 n ?_ ?_)) (v2_at m c n)
  · show win0_4.index t (0 : Fin 2) * 1 + 1 * 0 = 0; omega
  · show win0_4.index t (1 : Fin 2) * 1024 + 1 * n.val = n.val; omega

theorem b5_at (t : Fin cfg0.N) (n : Fin 1024) : (iblk m c 5 t : S1x1024.Idx → EReal) (ix2 0 n) = aE m c (ix1 n) := by
  obtain ⟨-, -, -, -, -, -, -, -, -, -, -, -, e0, e1⟩ := idx_all t
  refine Eq.trans (congrArg (V m c main_v3 : S1x1024.Idx → EReal) (idx_eq _ 0 n ?_ ?_)) (v3_at m c n)
  · show win0_5.index t (0 : Fin 2) * 1 + 1 * 0 = 0; omega
  · show win0_5.index t (1 : Fin 2) * 1024 + 1 * n.val = n.val; omega

/-! ## The result array -/

/-- The normed row `R` at column `n`. -/
def rowOf (R : Fin 16384) (n : Fin 1024) : EReal :=
  FfnSpec.norm (aG m c) (aE m c)
    (fun n => Named.named (F := Ideal) κ "alpha" (φ := .f32) 0x3FD744FD#32 * aX m c (ix2 R n) + (∑ k : Fin 1024, aO m c (ix2 R k) * aW m c (ix2 k n) + aB m c (ix1 n))) n

def G : S16384x1024.Idx → EReal := fun i => rowOf m c (i 0) (i 1)

/-- What point `t` stores is row block `t` of the result. -/
theorem out_at (t : Fin cfg0.N) (r n : Fin 1024) (R : Fin 16384) (hR : R.val = 1024 * t.val + r.val) :
    out0_6 (F := Ideal) (iblk m c 0 t) (iblk m c 1 t) (iblk m c 2 t) (iblk m c 3 t) (iblk m c 4 t) (iblk m c 5 t) (ix2 r n) = rowOf m c R n := by
  rw [out_eq, pay_at]
  unfold rowOf FfnSpec.norm
  simp only [b0_at m c t r _ R hR, b1_at m c t r _ R hR, b2_at, b3_at]
  rw [show (ix1 n : S1024.Idx) 0 = n from rfl, b4_at, b5_at]

/-- Each point writes back its block of the result array. -/
theorem flushed_eq (t : Fin cfg0.N) : (dats (F := Ideal) m 0 c).flushed 6 t = ((cfg0.win 6).blk t).view.read (Elt Ideal) (G m c) := by
  obtain ⟨-, -, -, -, e0, e1, -⟩ := idx_all t
  rw [Value.flushed6]
  funext y
  have hy0 : (y 0).val < 1024 := (y 0).isLt
  have hy1 : (y 1).val < 1024 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  have hx : (cfg0.win 6).xinj (grid0.coords t) y = (ix2 ⟨(y 0).val, hy0⟩ ⟨(y 1).val, hy1⟩ : S1024x1024.Idx) :=
    idx_eq _ _ _ rfl rfl
  show out0_6 (F := Ideal) (iblk m c 0 t) (iblk m c 1 t) (iblk m c 2 t) (iblk m c 3 t) (iblk m c 4 t) (iblk m c 5 t) ((cfg0.win 6).xinj (grid0.coords t) y)
    = rowOf m c (((cfg0.win 6).blk t).view.emb y 0) (((cfg0.win 6).blk t).view.emb y 1)
  rw [hx]
  refine (out_at m c t ⟨(y 0).val, hy0⟩ ⟨(y 1).val, hy1⟩ (((cfg0.win 6).blk t).view.emb y 0) ?_).trans (congrArg (rowOf m c _) (Fin.ext ?_))
  · rw [hb0, e0]; show _ = 1024 * t.val + (y 0).val; omega
  · rw [hb1, e1]; show (y 1).val = _; omega

/-- An element of the result array is in a point's block when its row is. -/
theorem mem_blk (t : Fin cfg0.N) (i : S16384x1024.Idx) (h : (i 0).val / 1024 = t.val) : i ∈ ((cfg0.win 6).blk t).view.set := by
  have hi1 : (i 1).val < 1024 := (i 1).isLt
  obtain ⟨-, -, -, -, e0, e1, -⟩ := idx_all t
  show i ∈ ((View.whole main_v4).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem cover (i : S16384x1024.Idx) : ∃ t : Fin cfg0.N, (cfg0.win 6).flush t = true ∧ i ∈ ((cfg0.win 6).blk t).view.set := by
  have hi0 : (i 0).val < 16384 := (i 0).isLt
  have hN : (i 0).val / 1024 < cfg0.N := lt_of_lt_of_eq (by omega) N_0.symm
  exact ⟨⟨(i 0).val / 1024, hN⟩, flush0_6 _, mem_blk _ i rfl⟩

/-- The array the output window leaves. -/
theorem final : (dats (F := Ideal) m 0 c).arrAt 6 cfg0.N = G m c :=
  (dats (F := Ideal) m 0 c).arrAt_eq_of_cover 6 _ (fun t _ => flushed_eq m c t) cover

/-- The run: the result array at the normed rows, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.OutIdeal.Out
end
-- ==== Proof.Out.Reference.lean ====
/- The output projection's reference read at an index. -/
module

public import proofs.«01_k».proof.Proof.Gen.OutRefIdeal.Read
public import proofs.«01_k».proof.Proof.Ffn.Spec
public import Idealize.ShloMosaic.Lib.Pointwise
public import Idealize.ShloMosaic.Lib.KernelVsHost

@[expose] public section

set_option maxRecDepth 16384

noncomputable section

namespace Cert.OutRefIdeal.Out

open Cert.OutRefIdeal Cert.OutRefIdeal.Gen Cert.OutRefIdeal.Read Idealize.ShloMosaic Idealize.ShloMosaic.TcCoe Idealize.ShloMosaic.StableHlo

/-- The contents of an array of floats. -/
abbrev C (s : Shape) := (⟨s, .f32⟩ : BufTy).Contents (Elt Ideal)

variable (o : (⟨S16384x1024, .bf16⟩ : BufTy).Contents (Elt Ideal)) (x : C S16384x1024) (w : C S1024x1024) (b g e : C S1024)

/-- The weighted residual plus the projection. -/
theorem v9_at (R : Fin 16384) (n : Fin 1024) :
    val_main_v9 (F := Ideal) o x w b (ix2 R n)
      = Ideal.sqrt (Ideal.sqrt (Ideal.ofBits .f32 0x41000000#32)) * x (ix2 R n) + (∑ k, o (ix2 R k) * w (ix2 k n) + b (ix1 n)) := by
  pointwise [val_main_v9, val_main_v8, val_main_v7, val_main_v6, val_main_v5, val_main_v4, val_main_v3, val_main_v2, val_main_v1, val_main_v0, val_main_cst]

/-- The norm's mean. -/
theorem v13_at (R : Fin 16384) :
    val_main_v13 (F := Ideal) o x w b (ix2 R 0)
      = Ideal.div (∑ k : Fin 1024, val_main_v9 (F := Ideal) o x w b (ix2 R k)) (Ideal.ofBits .f32 0x44800000#32) := by
  pointwise [val_main_v13, val_main_v12, val_main_v11, val_main_v10, val_main_cst_0, val_main_cst_1]

/-- The norm. -/
theorem v33_at (R : Fin 16384) (n : Fin 1024) :
    val_main_v33 (F := Ideal) o x w b g e (ix2 R n)
      = FfnSpec.norm g e (fun n => val_main_v9 (F := Ideal) o x w b (ix2 R n)) n := by
  unfold FfnSpec.norm
  dsimp only
  rw [← v13_at]
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]

end Cert.OutRefIdeal.Out
end
-- ==== Proof.Out.Claims.lean ====
/- The claims about the output projection with the residual and the norm. -/
module

public import proofs.«01_k».proof.Defs
public import proofs.«01_k».proof.Proof.Ffn.Claims
public import proofs.«01_k».proof.Proof.Out.Kernel
public import proofs.«01_k».proof.Proof.Out.Reference
public import proofs.«01_k».proof.Proof.Gen.Out.Frame
public import proofs.«01_k».proof.Proof.Gen.OutRefIdeal.Run
public import Idealize.ShloMosaic.Adequacy
public import Idealize.ShloMosaic.Init
public import Idealize.ShloMosaic.Lib.Quiescent

@[expose] public section

set_option maxRecDepth 16384

noncomputable section

namespace Cert.Proof.Out

open Idealize.ShloMosaic Idealize.ShloMosaic.TcCoe

/-- The residual weight: the kernel's named constant is the reference's fourth root of eight. -/
theorem alpha_eq : Named.named (F := Ideal) Cert.OutIdeal.κ "alpha" (φ := .f32) 0x3FD744FD#32
    = Ideal.sqrt (Ideal.sqrt (Ideal.ofBits .f32 0x41000000#32)) :=
  (IdealRules.named_const.ideal_named_scalar _ _ _ _ rfl : _ = ((Real.sqrt (Real.sqrt 8) : ℝ) : EReal)).trans
    (Cert.Proof.Ffn.named_alpha.symm.trans Cert.Proof.Ffn.alpha_eq)

/-- The reference runs, keeps its arguments and leaves no counter raised. -/
theorem quiescent_ref [Cert.OutRefIdeal.Facts] : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The named constant stands for the real it is named after. -/
theorem preserves : Cert.preserves_Out_OutIdeal :=
  IdealRules.named_const.statement Cert.OutIdeal.κ "alpha" .f32 0x3FD744FD#32 ((Real.sqrt (Real.sqrt 8) : ℝ) : EReal) rfl

/-- The kernel's result is the reference's, element by element. -/
theorem algebraic [Cert.OutIdeal.Facts] [Cert.OutRefIdeal.Facts] : Cert.algebraic_OutIdeal_OutRefIdeal := by
  intro m ρ m' ρ' _ hagree
  refine ⟨_, Cert.OutIdeal.Out.run m ρ, ?_⟩
  refine (θ_run Cert.OutRefIdeal.defs _ _).mono (fun _ h c => ⟨?_, (h c).2⟩) (Cert.OutRefIdeal.Value.run (F := Ideal) m' ρ')
  obtain ⟨h0, h1, h2, h3, h4, h5⟩ := hagree c
  refine (h c).1.trans ((Cert.OutRefIdeal.Read.val_main_v33_eq m' c).trans ?_)
  rw [h0, h1, h2, h3, h4, h5]
  funext i
  refine (congrArg _ (eq_ix2 (n0 := 16384) (n1 := 1024) i)).trans ((Cert.OutRefIdeal.Out.v33_at _ _ _ _ _ _ (i 0) (i 1)).trans ?_)
  show _ = Cert.OutIdeal.Out.rowOf m c (i 0) (i 1)
  unfold Cert.OutIdeal.Out.rowOf
  rw [alpha_eq]
  exact congrArg (fun z => FfnSpec.norm _ _ z (i 1)) (funext fun n => Cert.OutRefIdeal.Out.v9_at _ _ _ _ (i 0) n)

end Cert.Proof.Out
end
-- ==== Proof.lean ====
module

public import proofs.«01_k».proof.Defs
public import proofs.«01_k».proof.Proof.Ffn.Claims
public import proofs.«01_k».proof.Proof.Qkv.Claims
public import proofs.«01_k».proof.Proof.Out.Claims

@[expose] public section

/-- Every claim of the certificate. -/
theorem Cert.Proof.claim : Cert.Claim :=
  ⟨Cert.Ffn.Gen.facts, Cert.FfnIdeal.Gen.facts, Cert.FfnRefIdeal.Gen.facts,
    Cert.Qkv.Gen.facts, Cert.QkvIdeal.Gen.facts, Cert.QkvRefIdeal.Gen.facts,
    Cert.Out.Gen.facts, Cert.OutIdeal.Gen.facts, Cert.OutRefIdeal.Gen.facts,
    fun m ρ _ => Cert.Ffn.Gen.frame m ρ, fun m ρ _ => Cert.FfnIdeal.Gen.frame m ρ, Cert.Proof.Ffn.quiescent_ref,
    fun m ρ _ => Cert.Qkv.Gen.frame m ρ, fun m ρ _ => Cert.QkvIdeal.Gen.frame m ρ, Cert.Proof.Qkv.quiescent_ref,
    fun m ρ _ => Cert.Out.Gen.frame m ρ, fun m ρ _ => Cert.OutIdeal.Gen.frame m ρ, Cert.Proof.Out.quiescent_ref,
    Cert.Proof.Ffn.preserves, Cert.Proof.Ffn.algebraic,
    trivial, Cert.Proof.Qkv.algebraic,
    Cert.Proof.Out.preserves, Cert.Proof.Out.algebraic⟩
end
